-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S128x1024 : Shape := ⟨2, ![128, 1024]⟩
abbrev S7x128x1024 : Shape := ⟨3, ![7, 128, 1024]⟩
abbrev S7 : Shape := ⟨1, ![7]⟩
abbrev S_ : Shape := ⟨0, ![]⟩
abbrev S128x2048 : Shape := ⟨2, ![128, 2048]⟩
abbrev S1x128x1024 : Shape := ⟨3, ![1, 128, 1024]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S2048x1024, .bf16⟩
  | .hbm, ⟨3, _⟩ => ⟨S1024x1024, .f32⟩
  | .local _ .vmem, ⟨0, _⟩ => ⟨S1024x1024, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S128x1024, .f32⟩
  | .local _ .vmem, ⟨5, _⟩ => ⟨S7x128x1024, .bf16⟩
  | .local _ .vmem, ⟨6, _⟩ => ⟨S7x128x1024, .bf16⟩
  | .local _ .vmem, ⟨7, _⟩ => ⟨S128x1024, .bf16⟩
  | .local _ .vmem, ⟨8, _⟩ => ⟨S7x128x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v36 : BitVec 32 := Scalar.addi v2 c1_i32_32
  let v37 : BitVec 32 := Scalar.addi v36 c0_i32_33
  let c8_i32_34 : BitVec 32 := 8#32
  let v38 : BitVec 32 := Scalar.remsi v37 c8_i32_34
  let c128_i32 : BitVec 32 := 128#32
  let v39 : BitVec 32 := Scalar.muli v38 c128_i32
  let v40 : Index := Scalar.indexCast v39
  let c0_35 : Index := 0#32
  ![v40.toNat, 0]
def k0_dev8 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v36 : BitVec 32 := Scalar.addi v2 c1_i32_32
  let c0_i32_33 : BitVec 32 := 0#32
  let v37 : BitVec 32 := Scalar.addi v36 c0_i32_33
  let c8_i32_34 : BitVec 32 := 8#32
  let v38 : BitVec 32 := Scalar.remsi v37 c8_i32_34
  let c1_i32_45 : BitVec 32 := 1#32
  let v52 : BitVec 32 := Scalar.muli v38 c1_i32_45
  let v53 : BitVec 32 := Scalar.addi c0_i32_46 v52
  v53.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v62 : BitVec 32 := Scalar.addi v2 c1_i32_51
  let c1_i32_52 : BitVec 32 := 1#32
  let v63 : BitVec 32 := Scalar.addi v62 c1_i32_52
  let c8_i32_53 : BitVec 32 := 8#32
  let v64 : BitVec 32 := Scalar.remsi v63 c8_i32_53
  let c1_i32_65 : BitVec 32 := 1#32
  let v78 : BitVec 32 := Scalar.muli v64 c1_i32_65
  let v79 : BitVec 32 := Scalar.addi c0_i32_66 v78
  v79.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v88 : BitVec 32 := Scalar.addi v2 c1_i32_71
  let c2_i32_72 : BitVec 32 := 2#32
  let v89 : BitVec 32 := Scalar.addi v88 c2_i32_72
  let c8_i32_73 : BitVec 32 := 8#32
  let v90 : BitVec 32 := Scalar.remsi v89 c8_i32_73
  let c1_i32_85 : BitVec 32 := 1#32
  let v104 : BitVec 32 := Scalar.muli v90 c1_i32_85
  let v105 : BitVec 32 := Scalar.addi c0_i32_86 v104
  v105.toNat
def k0_dev11 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v114 : BitVec 32 := Scalar.addi v2 c1_i32_91
  let c3_i32_92 : BitVec 32 := 3#32
  let v115 : BitVec 32 := Scalar.addi v114 c3_i32_92
  let c8_i32_93 : BitVec 32 := 8#32
  let v116 : BitVec 32 := Scalar.remsi v115 c8_i32_93
  let c1_i32_105 : BitVec 32 := 1#32
  let v130 : BitVec 32 := Scalar.muli v116 c1_i32_105
  let v131 : BitVec 32 := Scalar.addi c0_i32_106 v130
  v131.toNat
def k0_dev12 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_111 : BitVec 32 := 1#32
  let v140 : BitVec 32 := Scalar.addi v2 c1_i32_111
  let c4_i32_112 : BitVec 32 := 4#32
  let v141 : BitVec 32 := Scalar.addi v140 c4_i32_112
  let c8_i32_113 : BitVec 32 := 8#32
  let v142 : BitVec 32 := Scalar.remsi v141 c8_i32_113
  let c1_i32_125 : BitVec 32 := 1#32
  let v156 : BitVec 32 := Scalar.muli v142 c1_i32_125
  let v157 : BitVec 32 := Scalar.addi c0_i32_126 v156
  v157.toNat
def k0_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v166 : BitVec 32 := Scalar.addi v2 c1_i32_131
  let c5_i32_132 : BitVec 32 := 5#32
  let v167 : BitVec 32 := Scalar.addi v166 c5_i32_132
  let c8_i32_133 : BitVec 32 := 8#32
  let v168 : BitVec 32 := Scalar.remsi v167 c8_i32_133
  let c1_i32_145 : BitVec 32 := 1#32
  let v182 : BitVec 32 := Scalar.muli v168 c1_i32_145
  let v183 : BitVec 32 := Scalar.addi c0_i32_146 v182
  v183.toNat
def k0_dev14 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_151 : BitVec 32 := 1#32
  let v192 : BitVec 32 := Scalar.addi v2 c1_i32_151
  let c6_i32_152 : BitVec 32 := 6#32
  let v193 : BitVec 32 := Scalar.addi v192 c6_i32_152
  let c8_i32_153 : BitVec 32 := 8#32
  let v194 : BitVec 32 := Scalar.remsi v193 c8_i32_153
  let c1_i32_165 : BitVec 32 := 1#32
  let v208 : BitVec 32 := Scalar.muli v194 c1_i32_165
  let v209 : BitVec 32 := Scalar.addi c0_i32_166 v208
  v209.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_171 : BitVec 32 := 128#32
  let v218 : BitVec 32 := Scalar.muli v2 c128_i32_171
  let v219 : Index := Scalar.indexCast v218
  let c0_172 : Index := 0#32
  ![v219.toNat, 0]
def k0_dev15 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_305 : BitVec 32 := 1#32
  let v351 : BitVec 32 := Scalar.addi v2 c1_i32_305
  let c0_i32_306 : BitVec 32 := 0#32
  let v352 : BitVec 32 := Scalar.addi v351 c0_i32_306
  let c8_i32_307 : BitVec 32 := 8#32
  let v353 : BitVec 32 := Scalar.remsi v352 c8_i32_307
  let c1_i32_311 : BitVec 32 := 1#32
  let v354 : BitVec 32 := Scalar.muli v353 c1_i32_311
  let v355 : BitVec 32 := Scalar.addi c0_i32_312 v354
  v355.toNat
def k0_dev16 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_315 : BitVec 32 := 1#32
  let v362 : BitVec 32 := Scalar.addi v2 c1_i32_315
  let c1_i32_316 : BitVec 32 := 1#32
  let v363 : BitVec 32 := Scalar.addi v362 c1_i32_316
  let c8_i32_317 : BitVec 32 := 8#32
  let v364 : BitVec 32 := Scalar.remsi v363 c8_i32_317
  let c1_i32_321 : BitVec 32 := 1#32
  let v365 : BitVec 32 := Scalar.muli v364 c1_i32_321
  let v366 : BitVec 32 := Scalar.addi c0_i32_322 v365
  v366.toNat
def k0_dev17 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_325 : BitVec 32 := 1#32
  let v373 : BitVec 32 := Scalar.addi v2 c1_i32_325
  let c2_i32_326 : BitVec 32 := 2#32
  let v374 : BitVec 32 := Scalar.addi v373 c2_i32_326
  let c8_i32_327 : BitVec 32 := 8#32
  let v375 : BitVec 32 := Scalar.remsi v374 c8_i32_327
  let c1_i32_331 : BitVec 32 := 1#32
  let v376 : BitVec 32 := Scalar.muli v375 c1_i32_331
  let v377 : BitVec 32 := Scalar.addi c0_i32_332 v376
  v377.toNat
def k0_dev18 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_335 : BitVec 32 := 1#32
  let v384 : BitVec 32 := Scalar.addi v2 c1_i32_335
  let c3_i32_336 : BitVec 32 := 3#32
  let v385 : BitVec 32 := Scalar.addi v384 c3_i32_336
  let c8_i32_337 : BitVec 32 := 8#32
  let v386 : BitVec 32 := Scalar.remsi v385 c8_i32_337
  let c1_i32_341 : BitVec 32 := 1#32
  let v387 : BitVec 32 := Scalar.muli v386 c1_i32_341
  let v388 : BitVec 32 := Scalar.addi c0_i32_342 v387
  v388.toNat
def k0_dev19 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_345 : BitVec 32 := 1#32
  let v395 : BitVec 32 := Scalar.addi v2 c1_i32_345
  let c4_i32_346 : BitVec 32 := 4#32
  let v396 : BitVec 32 := Scalar.addi v395 c4_i32_346
  let c8_i32_347 : BitVec 32 := 8#32
  let v397 : BitVec 32 := Scalar.remsi v396 c8_i32_347
  let c1_i32_351 : BitVec 32 := 1#32
  let v398 : BitVec 32 := Scalar.muli v397 c1_i32_351
  let v399 : BitVec 32 := Scalar.addi c0_i32_352 v398
  v399.toNat
def k0_dev20 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_355 : BitVec 32 := 1#32
  let v406 : BitVec 32 := Scalar.addi v2 c1_i32_355
  let c5_i32_356 : BitVec 32 := 5#32
  let v407 : BitVec 32 := Scalar.addi v406 c5_i32_356
  let c8_i32_357 : BitVec 32 := 8#32
  let v408 : BitVec 32 := Scalar.remsi v407 c8_i32_357
  let c1_i32_361 : BitVec 32 := 1#32
  let v409 : BitVec 32 := Scalar.muli v408 c1_i32_361
  let v410 : BitVec 32 := Scalar.addi c0_i32_362 v409
  v410.toNat
def k0_dev21 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_365 : BitVec 32 := 1#32
  let v417 : BitVec 32 := Scalar.addi v2 c1_i32_365
  let c6_i32_366 : BitVec 32 := 6#32
  let v418 : BitVec 32 := Scalar.addi v417 c6_i32_366
  let c8_i32_367 : BitVec 32 := 8#32
  let v419 : BitVec 32 := Scalar.remsi v418 c8_i32_367
  let c1_i32_371 : BitVec 32 := 1#32
  let v420 : BitVec 32 := Scalar.muli v419 c1_i32_371
  let v421 : BitVec 32 := Scalar.addi c0_i32_372 v420
  v421.toNat
def k0_off3 (d0 : Dev nD) (c0_i32_383 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_382 : BitVec 32 := 1#32
  let v434 : BitVec 32 := Scalar.subi v2 c1_i32_382
  let v435 : BitVec 32 := Scalar.subi v434 c0_i32_383
  let c16_i32 : BitVec 32 := 16#32
  let v436 : BitVec 32 := Scalar.addi v435 c16_i32
  let c8_i32_384 : BitVec 32 := 8#32
  let v437 : BitVec 32 := Scalar.remsi v436 c8_i32_384
  let c128_i32_388 : BitVec 32 := 128#32
  let v441 : BitVec 32 := Scalar.muli v437 c128_i32_388
  let v442 : Index := Scalar.indexCast v441
  let c0_389 : Index := 0#32
  ![v442.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x16384, .bf16⟩
  | .hbm, ⟨2, _⟩ => ⟨S16384x1024, .bf16⟩
  | .hbm, ⟨3, _⟩ => ⟨S1024x16384, .f32⟩
  | .hbm, ⟨4, _⟩ => ⟨S1024x16384, .bf16⟩
  | .hbm, ⟨5, _⟩ => ⟨S_, .bf16⟩
  | .hbm, ⟨6, _⟩ => ⟨S1024x16384, .bf16⟩
  | .hbm, ⟨7, _⟩ => ⟨S1024x16384, .bf16⟩
  | .hbm, ⟨8, _⟩ => ⟨S1024x1024, .f32⟩
  | .hbm, ⟨9, _⟩ => ⟨S1024x1024, .bf16⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.IdealSched.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Tabled
public import Idealize.ShloMosaic.Lib.Ring.FamCut
public import Idealize.ShloMosaic.Lib.ViewIndex
public import Idealize.ShloMosaic.Lib.Tactic

/-!
# The eight-device MLP kernel: semaphore cells, contents and schedule

Every device first signals the other seven on the barrier semaphore and waits for seven units.  It then sends, for
`k = 0 … 6`, its share of the product's row chunk of device `c + 1 + k` into that device's landing slot `k` of the
reduce buffers, adds the seven pieces that land for its own chunk to its own share, and sends the rounded total to
every other device's landing slot `k` of the gather buffers.

The cells of a device are its barrier cell and, for each of four semaphore arrays (reduce send, reduce receive, gather
send, gather receive), seven transfer cells.  Each has one round.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the mesh's (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

/-- The device a step `k` of device `c` addresses: `c + 1 + k`. -/
def sh (c : Dev nD) (k : Fin 7) : Dev nD := ⟨(c.val + 1 + k.val) % 8, Nat.mod_lt _ (by decide)⟩
/-- The device whose step `k` addresses device `c`: `c - 1 - k`. -/
def bk (c : Dev nD) (k : Fin 7) : Dev nD := ⟨(c.val + 7 - k.val) % 8, Nat.mod_lt _ (by decide)⟩

/-- Step back after step on is the device itself. -/
theorem bk_sh (c : Dev nD) (k : Fin 7) : bk (sh c k) k = c := by revert c k; decide
/-- Step on after step back is the device itself. -/
theorem sh_bk (c : Dev nD) (k : Fin 7) : sh (bk c k) k = c := by revert c k; decide
/-- A step on and the reversed step on make a whole turn. -/
theorem sh_sh_rev (c : Dev nD) (k : Fin 7) : sh (sh c k) k.rev = c := by revert c k; decide
/-- The reversed step on is the step back. -/
theorem sh_rev (c : Dev nD) (k : Fin 7) : sh c k.rev = bk c k := by revert c k; decide
/-- No step leads a device to itself. -/
theorem bk_ne (c : Dev nD) (k : Fin 7) : bk c k ≠ c := by revert c k; decide
/-- Different steps back lead to different devices. -/
theorem bk_inj (c : Dev nD) (k k' : Fin 7) (h : bk c k = bk c k') : k = k' := by revert c k k'; decide
/-- Every device is the device itself or one of the seven steps back from it. -/
theorem bk_cover (c d : Dev nD) : d = c ∨ ∃ k : Fin 7, d = bk c k := by revert c d; decide

/-- Step `k` as a permutation of the devices. -/
def shE (k : Fin 7) : Dev nD ≃ Dev nD := ⟨fun c => sh c k, fun c => bk c k, fun c => bk_sh c k, fun c => sh_bk c k⟩

/-! ## The memrefs -/

abbrev xM : Memref sig .tc .vmem S1024x1024 .bf16 := Memref.whole cc0_stg0_0
abbrev w1M : Memref sig .tc .vmem S1024x2048 .bf16 := Memref.whole cc0_stg1_0
abbrev w2M : Memref sig .tc .vmem S2048x1024 .bf16 := Memref.whole cc0_stg2_0
abbrev oM : Memref sig .tc .vmem S1024x1024 .f32 := Memref.whole cc0_stg3_0
abbrev ownM : Memref sig .tc .vmem S128x1024 .f32 := Memref.whole cc0_scratch0
abbrev rsSM : Memref sig .tc .vmem S7x128x1024 .bf16 := Memref.whole cc0_scratch1
abbrev rsRM : Memref sig .tc .vmem S7x128x1024 .bf16 := Memref.whole cc0_scratch2
abbrev agSM : Memref sig .tc .vmem S128x1024 .bf16 := Memref.whole cc0_scratch3
abbrev agRM : Memref sig .tc .vmem S7x128x1024 .bf16 := Memref.whole cc0_scratch4

/-- Slot `k` lies within a buffer of seven slots. -/
theorem inb7 (k : Fin 7) : ∀ a, (![k.val, 0, 0] : Fin 3 → Nat) a + S1x128x1024.size a ≤ S7x128x1024.size a := by
  revert k; decide
/-- Semaphore `k` lies within an array of seven. -/
theorem inb1 (k : Fin 7) : ∀ a, (![k.val] : Fin 1 → Nat) a + S1.size a ≤ S7.size a := by revert k; decide
/-- Chunk `d` of the rows lies within the matrix. -/
theorem inbR (d : Dev nD) : ∀ a, (![128 * d.val, 0] : Fin 2 → Nat) a + S128x1024.size a ≤ S1024x1024.size a := by
  revert d; decide

/-- Slot `k` of a buffer of seven. -/
abbrev slotR (k : Fin 7) : Rect S7x128x1024 := Rect.unit (s := S7x128x1024) ![k.val, 0, 0] S1x128x1024.size (inb7 k)
/-- The rows of device `d`'s chunk. -/
abbrev rowR (d : Dev nD) : Rect S1024x1024 := Rect.unit (s := S1024x1024) ![128 * d.val, 0] S128x1024.size (inbR d)

/-- Slot `k` of a seven-slot buffer as the kernel's transfers name it. -/
abbrev slot (b : Memref sig .tc .vmem S7x128x1024 .bf16) (k : Fin 7) : Memref sig .tc .vmem S128x1024 .bf16 :=
  (b.slice (slotR k) (fun _ => rfl)).squeeze S128x1024 squeezes_S1x128x1024_S128x1024

/-! ## The cells -/

/-- The barrier semaphore. -/
abbrev barS : Sem sig := (SemArray.scalar (sig.barrier 0 rfl) : Sems sig S_).sem
/-- Semaphore `k` of an array of seven. -/
abbrev semOf (a : DmaSems sig S7) (k : Fin 7) : DmaSem sig :=
  ((a.slice (Rect.unit (s := S7) ![k.val] S1.size (inb1 k))).squeeze S_ squeezes_S1_S_).sem
/-- The four arrays: reduce send, reduce receive, gather send, gather receive. -/
def arr : Fin 4 → DmaSems sig S7
  | 0 => cc0_scratch5 | 1 => cc0_scratch6 | 2 => cc0_scratch7 | 3 => cc0_scratch8

/-- A device's cells: `none` the barrier, `some (a, k)` semaphore `k` of array `a`. -/
abbrev CI : Type := Option (Fin 4 × Fin 7)

/-- The kernel's own scoped semaphores. -/
def osem (i : Fin 4 × Fin 7) : SemLoc sig := .dma (semOf (arr i.1) i.2)
def csem : CI → SemLoc sig
  | none => .reg barS
  | some i => osem i
def kcell (ci : Dev nD × CI) : GSem nD τ sig := ((ci.1 : Thread nD τ), csem ci.2)

abbrev barCell (c : Dev nD) : GSem nD τ sig := ((c : Thread nD τ), .reg barS)
abbrev dmaCell (c : Dev nD) (a : Fin 4) (k : Fin 7) : GSem nD τ sig := ((c : Thread nD τ), osem (a, k))

/-- The transfer semaphores are distinct. -/
theorem osem_injective : Function.Injective osem := by decide +kernel
/-- The semaphores of a device's cells are distinct. -/
theorem csem_injective : Function.Injective csem := by
  rintro (_ | i) (_ | j) h
  · rfl
  · exact absurd h (fun h => by cases h)
  · exact absurd h (fun h => by cases h)
  · exact congrArg some (osem_injective h)

/-- Which cell of its device a semaphore is. -/
def decode (s : SemLoc sig) : Option CI := if h : ∃ i, csem i = s then some h.choose else none
/-- A cell is told from its semaphore. -/
theorem decode_csem (i : CI) : decode (csem i) = some i := by
  have h : ∃ j, csem j = csem i := ⟨i, rfl⟩
  unfold decode; rw [dif_pos h, csem_injective h.choose_spec]
/-- A semaphore of no cell is told apart. -/
theorem decode_none {s : SemLoc sig} (h : ∀ i, csem i ≠ s) : decode s = none := by
  unfold decode; exact dif_neg fun ⟨i, hi⟩ => h i hi

/-- The cells of all devices are distinct. -/
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- The units of one transfer. -/
abbrev N : ℕ := (slot rsRM 0).view.dmaCredit
/-- A transfer has at least one unit. -/
theorem N_pos : 0 < N := View.dmaCredit_pos _ (by decide)

/-! ## Contents -/

/-- A block of the seven-slot buffers as a matrix, and back. -/
def sqz (v : S1x128x1024.Idx → Elt F .bf16) : S128x1024.Idx → Elt F .bf16 :=
  fun j => v (Shape.reshapeEquiv squeezes_S1x128x1024_S128x1024.numel_eq j)
def unsq (v : S128x1024.Idx → Elt F .bf16) : S1x128x1024.Idx → Elt F .bf16 :=
  fun j => v (Shape.reshapeEquiv squeezes_S1x128x1024_S128x1024.numel_eq.symm j)

omit [FloatOps F] in
/-- A block made a matrix and back is itself. -/
theorem unsq_sqz (v : S1x128x1024.Idx → Elt F .bf16) : unsq (sqz v) = v := by
  funext j; unfold unsq sqz; rw [Shape.reshapeEquiv_reshapeEquiv, Shape.reshapeEquiv_self]
omit [FloatOps F] in
/-- A matrix made a block and back is itself. -/
theorem sqz_unsq (v : S128x1024.Idx → Elt F .bf16) : sqz (unsq v) = v := by
  funext j; unfold unsq sqz; dsimp only; rw [Shape.reshapeEquiv_reshapeEquiv, Shape.reshapeEquiv_self]

/-- What device `c` has staged of the three operands. -/
def xV (c : Dev nD) : (cc0_stg0_0 : Ref sig .tc).ty.Contents (Elt F) :=
  (win0_0.blk t0_0).view.read (Elt F) (m ((c : Thread nD τ).loc main_arg0))
def w1V (c : Dev nD) : (cc0_stg1_0 : Ref sig .tc).ty.Contents (Elt F) :=
  (win0_1.blk t0_0).view.read (Elt F) (m ((c : Thread nD τ).loc main_arg1))
def w2V (c : Dev nD) : (cc0_stg2_0 : Ref sig .tc).ty.Contents (Elt F) :=
  (win0_2.blk t0_0).view.read (Elt F) (m ((c : Thread nD τ).loc main_arg2))

/-- Chunk `d` of the rows of device `c`'s `x`. -/
def xch (c d : Dev nD) : Vec F S128x1024 .bf16 := xM.view.readAt (Elt F) (rowR d).toLoadRect (xV m c)

/-- Device `c`'s share of chunk `d`, rounded as it is sent. -/
def part (c d : Dev nD) : S128x1024.Idx → Elt F .bf16 := sqz (k0_pay3 (w1V m c) (w2V m c) (xch m c d))

/-- Device `c`'s running total of its own chunk once the first `n` pieces are added. -/
def acc (c : Dev nD) : ℕ → Vec F S128x1024 .f32
  | 0 => k0_pay12 (k0_pay1 (w1V m c)) (k0_pay2 (w2V m c)) (xch m c c)
  | n + 1 => if h : n < 7 then k0_pay15 (acc c n) (unsq (part m (bk c ⟨n, h⟩) c)) else acc c n

/-- The total of device `c`'s chunk. -/
abbrev tot (c : Dev nD) : Vec F S128x1024 .f32 := acc m c 7

/-- The total as it is sent round. -/
def agv (c : Dev nD) : S128x1024.Idx → Elt F .bf16 := k0_pay21 (tot m c)

/-- The rows of chunk `d` in device `c`'s result. -/
def outRow (c d : Dev nD) : Vec F S128x1024 .f32 := if d = c then tot m c else k0_pay23 (unsq (agv m d))

/-- The device of a row. -/
def devOfRow (i : S1024x1024.Idx) : Dev nD := ⟨(i 0).val / 128, by
  have : (i 0).val < 1024 := (i 0).isLt
  show _ < 8; omega⟩
/-- A row's place in its chunk. -/
def inRow (i : S1024x1024.Idx) : S128x1024.Idx := fun
  | ⟨0, _⟩ => ⟨(i 0).val % 128, Nat.mod_lt _ (by decide)⟩
  | ⟨1, _⟩ => ⟨(i 1).val, (i 1).isLt⟩

/-- Device `c`'s result. -/
def outV (c : Dev nD) : (cc0_stg3_0 : Ref sig .tc).ty.Contents (Elt F) := fun i => outRow m c (devOfRow i) (inRow i)

/-! ## Slots held -/

/-- Slot `k` of a seven-slot buffer of device `c`, at any contents. -/
def slotAny (c : Dev nD) (b : Memref sig .tc .vmem S7x128x1024 .bf16) (k : Fin 7) : sProp 𝕄 :=
  iprop(∃ X, owns (c : Thread nD τ) (slot b k) fullShare X)
/-- The share of the gather source that transfer `k` borrows. -/
abbrev pc (k : Fin 7) : PosShare TreeShare := Ring.sharesN 7 fullShare k
/-- The gather source at its value, at share `q`. -/
def agS (c : Dev nD) (q : PosShare TreeShare) : sProp 𝕄 := owns (c : Thread nD τ) agSM q (agv m c)

omit [FloatOps F] in
instance slotAny_storable (c : Dev nD) (b) (k : Fin 7) : BI.Storable (upEmb : UEmb _ 𝕄) (slotAny (F := F) c b k) := by
  unfold slotAny; infer_instance
instance agS_storable (c : Dev nD) (q) : BI.Storable (upEmb : UEmb _ 𝕄) (agS (F := F) m c q) := by
  unfold agS; infer_instance

/-! ## The schedule -/

/-- What the units of a cell hand its owner `c`.  The barrier's duty `k`, paid by device `c + 1 + k`: that device's two
    landing slots `k`.  A reduce send: the slot sent, back.  A reduce receive: the slot with the piece that landed.  A
    gather send: the borrowed share, back.  A gather receive: the slot with the total that landed. -/
def pay (c : Dev nD) : CI → Fin 7 → sProp 𝕄
  | none, k => iprop(slotAny (sh c k) rsRM k ∗ slotAny (sh c k) agRM k)
  | some (0, k), _ => slotAny c rsSM k
  | some (1, k), _ => owns (c : Thread nD τ) (slot rsRM k) fullShare (part m (bk c k) c)
  | some (2, k), _ => agS m c (pc k)
  | some (3, k), _ => owns (c : Thread nD τ) (slot agRM k) fullShare (agv m (bk c k))

instance pay_storable (c : Dev nD) (i : CI) (k : Fin 7) : BI.Storable (upEmb : UEmb _ 𝕄) (pay (F := F) m c i k) := by
  rcases i with _ | ⟨a, j⟩
  · unfold pay; infer_instance
  · match a with
    | 0 => unfold pay; infer_instance
    | 1 => unfold pay; infer_instance
    | 2 => unfold pay; infer_instance
    | 3 => unfold pay; infer_instance

/-- What a barrier unit hands over: the payer's two landing slots. -/
theorem pay_bar (c : Dev nD) (k : Fin 7) : pay (F := F) m c none k = iprop(slotAny (sh c k) rsRM k ∗ slotAny (sh c k) agRM k) := rfl
/-- What a reduce send hands back: the slot sent from. -/
theorem pay_rsS (c : Dev nD) (k d : Fin 7) : pay (F := F) m c (some (0, k)) d = slotAny c rsSM k := rfl
/-- What a reduce receive hands over: the slot with the piece that landed. -/
theorem pay_rsR (c : Dev nD) (k d : Fin 7) :
    pay (F := F) m c (some (1, k)) d = owns (c : Thread nD τ) (slot rsRM k) fullShare (part m (bk c k) c) := rfl
/-- What a gather send hands back: the share of the source borrowed. -/
theorem pay_agS (c : Dev nD) (k d : Fin 7) : pay (F := F) m c (some (2, k)) d = agS m c (pc k) := rfl
/-- What a gather receive hands over: the slot with the total that landed. -/
theorem pay_agR (c : Dev nD) (k d : Fin 7) :
    pay (F := F) m c (some (3, k)) d = owns (c : Thread nD τ) (slot agRM k) fullShare (agv m (bk c k)) := rfl

/-- The duties of a cell: seven at the barrier, one at a transfer cell. -/
def duty : CI → Finset (Fin 7)
  | none => Finset.univ
  | some _ => {0}
/-- A duty's units. -/
def amt : CI → ℕ
  | none => 1
  | some _ => N

/-- One round per cell. -/
def Rd : Rounds.Schedule (GSem nD τ sig) (Fin 7) 𝕄 where
  duties g r := if r = 0 ∧ g.1.2 = .tc then (decode g.2).elim ∅ duty else ∅
  unitless _ := False
  amount g _ _ := (decode g.2).elim 1 amt
  payload g _ d := (decode g.2).elim iprop(emp) (fun i => pay m g.1.1 i d)
  amount_pos g _ _ _ := by
    rcases decode g.2 with _ | _ | _
    · exact Nat.one_pos
    · exact Nat.one_pos
    · exact N_pos

instance Rd_payload_storable (g : GSem nD τ sig) (r : ℕ) (d : Fin 7) :
    BI.Storable (upEmb : UEmb _ 𝕄) ((Rd (F := F) m).payload g r d) := by
  show BI.Storable upEmb ((decode g.2).elim iprop(emp) (fun i => pay m g.1.1 i d))
  rcases decode g.2 with _ | i
  · show BI.Storable upEmb (iprop(emp) : sProp 𝕄); infer_instance
  · show BI.Storable upEmb (pay m g.1.1 i d); infer_instance

/-- The duties of a cell's round are those listed. -/
theorem duties_eq (c : Dev nD) (i : CI) : (Rd (F := F) m).duties (kcell (c, i)) 0 = duty i := by
  show (if 0 = 0 ∧ ((c : Thread nD τ)).2 = .tc then (decode (csem i)).elim ∅ duty else ∅) = _
  rw [if_pos ⟨rfl, rfl⟩, decode_csem]; rfl
/-- No cell has duties after its first round. -/
theorem duties_later (g : GSem nD τ sig) : ∀ r, 1 ≤ r → (Rd (F := F) m).duties g r = ∅ :=
  fun r hr => by dsimp only [Rd]; exact if_neg fun h => by omega
/-- The units of a cell's duty are those listed. -/
theorem amount_eq (c : Dev nD) (i : CI) (d : Fin 7) : (Rd (F := F) m).amount (kcell (c, i)) 0 d = amt i := by
  show (decode (csem i)).elim 1 amt = _
  rw [decode_csem]; rfl
/-- What a cell's duty hands over is as listed. -/
theorem payload_eq (c : Dev nD) (i : CI) (d : Fin 7) : (Rd (F := F) m).payload (kcell (c, i)) 0 d = pay m c i d := by
  show (decode (csem i)).elim iprop(emp) (fun i => pay m c i d) = _
  rw [decode_csem]; rfl

/-- All seven steps are duties of a barrier. -/
theorem mem_bar (c : Dev nD) (d : Fin 7) : d ∈ (Rd (F := F) m).duties (barCell c) 0 := by
  rw [show barCell c = kcell (c, none) from rfl, duties_eq]; exact Finset.mem_univ _
/-- A transfer cell has its one duty. -/
theorem mem_dma (c : Dev nD) (a : Fin 4) (k : Fin 7) : 0 ∈ (Rd (F := F) m).duties (dmaCell c a k) 0 := by
  rw [show dmaCell c a k = kcell (c, some (a, k)) from rfl, duties_eq]; exact Finset.mem_singleton_self _

/-- A barrier's round takes seven units. -/
theorem expect_bar (c : Dev nD) : (Rd (F := F) m).expect (barCell c) 0 = 7 := by
  unfold Schedule.expect Schedule.amountOf
  rw [show barCell c = kcell (c, none) from rfl, duties_eq, Finset.sum_congr rfl fun d _ => amount_eq m c none d]
  rfl
/-- A transfer cell's round takes one transfer's units. -/
theorem expect_dma (c : Dev nD) (a : Fin 4) (k : Fin 7) : (Rd (F := F) m).expect (dmaCell c a k) 0 = N := by
  unfold Schedule.expect Schedule.amountOf
  rw [show dmaCell c a k = kcell (c, some (a, k)) from rfl, duties_eq, Finset.sum_congr rfl fun d _ => amount_eq m c (some (a, k)) d]
  exact Finset.sum_singleton _ _

/-- A barrier's round hands over both landing slots of each of the other seven devices. -/
theorem rest_bar (c : Dev nD) : bigSep ((Rd (F := F) m).duties (barCell c) 0 \ ∅) (fun d => (Rd (F := F) m).payload (barCell c) 0 d)
    = bigSep Finset.univ (fun k => iprop(slotAny (sh c k) rsRM k ∗ slotAny (F := F) (sh c k) agRM k)) := by
  rw [Finset.sdiff_empty, show barCell c = kcell (c, none) from rfl, duties_eq]
  exact bigSep_congr fun k _ => payload_eq m c none k
/-- A transfer cell's round hands over what its one duty does. -/
theorem rest_dma (c : Dev nD) (a : Fin 4) (k : Fin 7) :
    bigSep ((Rd (F := F) m).duties (dmaCell c a k) 0 \ ∅) (fun d => (Rd (F := F) m).payload (dmaCell c a k) 0 d) = pay m c (some (a, k)) 0 := by
  rw [Finset.sdiff_empty, show dmaCell c a k = kcell (c, some (a, k)) from rfl, duties_eq]
  exact bigSep_singleton.trans (payload_eq m c (some (a, k)) 0)

/-! ## What each device owes; the levels -/

/-- The steps from the `n`-th on, and those before it. -/
def from7 (n : ℕ) : Finset (Fin 7) := Finset.univ.filter (n ≤ ·.val)
def upto7 (n : ℕ) : Finset (Fin 7) := Finset.univ.filter (·.val < n)

/-- All steps are from the first on. -/
theorem from7_zero : from7 0 = Finset.univ := by decide
/-- No step is from the eighth on. -/
theorem from7_seven : from7 7 = ∅ := by decide
/-- No step comes before the first. -/
theorem upto7_zero : upto7 0 = ∅ := by decide
/-- All steps come before the eighth. -/
theorem upto7_seven : upto7 7 = Finset.univ := by decide
/-- The steps from `k` on are `k` and those after it. -/
theorem from7_peel (k : Fin 7) : from7 k.val = insert k (from7 (k.val + 1)) := by revert k; decide
/-- A step is not among those after it. -/
theorem from7_not_mem (k : Fin 7) : k ∉ from7 (k.val + 1) := by revert k; decide
/-- The steps up to and with `k` are `k` and those before it. -/
theorem upto7_grow (k : Fin 7) : upto7 (k.val + 1) = insert k (upto7 k.val) := by revert k; decide
/-- A step is not among those before it. -/
theorem upto7_not_mem (k : Fin 7) : k ∉ upto7 k.val := by revert k; decide

/-- The barrier units, the reduce transfers and the gather transfers device `c` still owes from step `n` on. -/
def OB (c : Dev nD) (n : ℕ) : CellTallies nD τ sig Unit := ∑ k ∈ from7 n, tallyAt (barCell (sh c k)) () 1
def OX (c : Dev nD) (a : Fin 4) (n : ℕ) : CellTallies nD τ sig Unit := ∑ k ∈ from7 n, tallyAt (dmaCell (sh c k) a k) () N
/-- What a device owes at launch. -/
def O₀ (c : Dev nD) : CellTallies nD τ sig Unit := OX c 3 0 + OX c 1 0 + OB c 0

/-- The barrier units owed from step `k` on are the `k`-th and those after it. -/
theorem OB_peel (c : Dev nD) (k : Fin 7) : OB c k.val = OB c (k.val + 1) + tallyAt (barCell (sh c k)) () 1 := by
  unfold OB; rw [from7_peel, Finset.sum_insert (from7_not_mem k), add_comm]
/-- The transfers owed from step `k` on are the `k`-th and those after it. -/
theorem OX_peel (c : Dev nD) (a : Fin 4) (k : Fin 7) : OX c a k.val = OX c a (k.val + 1) + tallyAt (dmaCell (sh c k) a k) () N := by
  unfold OX; rw [from7_peel, Finset.sum_insert (from7_not_mem k), add_comm]
/-- After seven signals no barrier unit is owed. -/
theorem OB_end (c : Dev nD) : OB c 7 = 0 := by unfold OB; rw [from7_seven]; rfl
/-- After seven transfers of a kind none is owed. -/
theorem OX_end (c : Dev nD) (a : Fin 4) : OX c a 7 = 0 := by unfold OX; rw [from7_seven]; rfl

def L (g : GSem nD τ sig) : Finset Unit := if g.1.2 = .tc then {()} else ∅
/-- Barrier cells at 1, reduce receives at 2, gather receives at 3, everything else at 0. -/
def lvi : Option CI → ℕ
  | some none => 1
  | some (some (1, _)) => 2
  | some (some (3, _)) => 3
  | _ => 0
def lv (g : GSem nD τ sig) (_ : Unit) : ℕ := lvi (decode g.2)

/-- Only the main cores have levels. -/
theorem L_of_ne (g : GSem nD τ sig) (h : g.1.2 ≠ .tc) : L g = ∅ := if_neg h
/-- Every semaphore of a main core has its one level. -/
theorem L_tc (c : Dev nD) (sm : SemLoc sig) : L ((c : Thread nD τ), sm) = {()} := if_pos rfl
/-- A cell's level is the one listed for it. -/
theorem lv_kcell (c : Dev nD) (i : CI) (u : Unit) : lv (kcell (c, i)) u = lvi (some i) := by
  show lvi (decode (csem i)) = _; rw [decode_csem]

/-- Whatever is owed at `g` is owed at a cell listed. -/
theorem sum_pos {S : Finset (Fin 7)} {t : Fin 7 → GSem nD τ sig} {n : ℕ} {g : GSem nD τ sig} {u : Unit}
    (h : 0 < (∑ k ∈ S, (tallyAt (t k) () n : CellTallies nD τ sig Unit)) g u) : ∃ k, g = t k := by
  by_contra hn
  rw [not_exists] at hn
  rw [Finset.sum_apply, Finsupp.finset_sum_apply, Finset.sum_eq_zero] at h
  · exact Nat.lt_irrefl 0 h
  · intro k _
    rw [tallyAt_apply, if_neg fun h' => hn k h'.1]

/-- A device may wait on a cell of level `n` while it owes only cells of higher levels. -/
theorem mayWait_of (c : Dev nD) (sm : SemLoc sig) (n : ℕ) (hs : lvi (decode sm) ≤ n) (O : CellTallies nD τ sig Unit)
    (hO : ∀ g u, 0 < O g u → ∃ d i, g = kcell (d, i) ∧ n < lvi (some i)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, i, rfl, _⟩ := hO g u hg; exact Finset.mem_singleton_self _)
    (fun p hp => by rw [Finset.mem_singleton.mp hp]; exact hs)
    (fun g u hg => by obtain ⟨d, i, rfl, h⟩ := hO g u hg; rw [lv_kcell]; exact h)

/-- Transfers of a kind are owed only at cells of that kind. -/
theorem OX_pos {c : Dev nD} {a : Fin 4} {n : ℕ} {g : GSem nD τ sig} {u : Unit} (h : 0 < OX c a n g u) :
    ∃ d i, g = kcell (d, some (a, i)) := by
  obtain ⟨k, rfl⟩ := sum_pos h; exact ⟨sh c k, k, rfl⟩
/-- Barrier units are owed only at barriers. -/
theorem OB_pos {c : Dev nD} {n : ℕ} {g : GSem nD τ sig} {u : Unit} (h : 0 < OB c n g u) :
    ∃ d, g = kcell (d, none) := by
  obtain ⟨k, rfl⟩ := sum_pos h; exact ⟨sh c k, rfl⟩
/-- What is owed in a sum is owed in one of its parts. -/
theorem add_pos' {O O' : CellTallies nD τ sig Unit} {g : GSem nD τ sig} {u : Unit} (h : 0 < (O + O') g u) : 0 < O g u ∨ 0 < O' g u := by
  rw [Pi.add_apply, Finsupp.add_apply] at h; omega

/-- A device may wait for a staging copy while it owes all it owes at launch, or nothing. -/
theorem mayWait_stage (c : Dev nD) (q : DmaSem sig) (hq : ∀ i, csem i ≠ .dma q) (O : CellTallies nD τ sig Unit) (hO : O = O₀ c ∨ O = 0) :
    (levAts L lv : sProp 𝕄) ⊢ MayWait (c : Thread nD τ) (.dma q) () O := by
  rcases hO with rfl | rfl
  · refine mayWait_of c _ 0 (by rw [decode_none hq]; exact le_rfl) _ fun g u h => ?_
    rcases add_pos' h with h | h
    · rcases add_pos' h with h | h
      · obtain ⟨d, i, rfl⟩ := OX_pos h; exact ⟨d, _, rfl, by simp [lvi]⟩
      · obtain ⟨d, i, rfl⟩ := OX_pos h; exact ⟨d, _, rfl, by simp [lvi]⟩
    · obtain ⟨d, rfl⟩ := OB_pos h; exact ⟨d, _, rfl, by simp [lvi]⟩
  · rw [MayWait_zero]; iintro -; iempintro

/-- At its barrier wait a device owes transfers only. -/
theorem mayWait_bar (c : Dev nD) : (levAts L lv : sProp 𝕄) ⊢ MayWait (c : Thread nD τ) (.reg barS) () (OX c 3 0 + OX c 1 0) :=
  mayWait_of c _ 1 (by rw [show (SemLoc.reg barS : SemLoc sig) = csem none from rfl, decode_csem]; exact le_rfl) _ fun g u h => by
    rcases add_pos' h with h | h
    · obtain ⟨d, i, rfl⟩ := OX_pos h; exact ⟨d, _, rfl, by simp [lvi]⟩
    · obtain ⟨d, i, rfl⟩ := OX_pos h; exact ⟨d, _, rfl, by simp [lvi]⟩

/-- At its reduce receives a device owes gather transfers only. -/
theorem mayWait_rs (c : Dev nD) (k : Fin 7) : (levAts L lv : sProp 𝕄) ⊢ MayWait (c : Thread nD τ) (osem (1, k)) () (OX c 3 0) :=
  mayWait_of c _ 2 (by rw [show osem (1, k) = csem (some (1, k)) from rfl, decode_csem]; exact le_rfl) _ fun g u h => by
    obtain ⟨d, i, rfl⟩ := OX_pos h; exact ⟨d, _, rfl, by simp [lvi]⟩

end Cert.KernelIdeal.Mesh

end
-- ==== Proof.IdealOps.lean ====
module

public import proofs.«01_k».proof.Proof.IdealSched

/-!
# The eight-device MLP kernel: one lemma per kind of memory operation

Each lemma takes a device past one operation: a signal, a wait, a send, or a load or store of a slot, a chunk of rows
or a whole buffer.  The device's resources are kept in bundles indexed by how many steps are done.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The invariants of all cells, that each has reached its round, and the levels. -/
def env (K : Dev nD × CI → ℕ) : sProp 𝕄 :=
  iprop((bigSep Finset.univ fun ci : Dev nD × CI => cellInv ER (Rd m) (K ci) (kcell ci))
    ∗ (bigSep Finset.univ fun ci : Dev nD × CI => reached ER (kcell ci) 0) ∗ levAts L lv)

instance env_persistent (K : Dev nD × CI → ℕ) : BI.Persistent (env (F := F) m K) := by unfold env; infer_instance

variable (K : Dev nD × CI → ℕ)

/-- Every cell's invariant is known. -/
theorem env_inv (c : Dev nD) (i : CI) : env (F := F) m K ⊢ cellInv ER (Rd m) (K (c, i)) (kcell (c, i)) := by
  unfold env; iintro ⟨#H, -⟩
  iapply (show (bigSep Finset.univ fun ci : Dev nD × CI => (cellInv ER (Rd m) (K ci) (kcell ci) : sProp 𝕄)) ⊢ cellInv ER (Rd m) (K (c, i)) (kcell (c, i))
    from bigSep_elim (Finset.mem_univ (c, i))); iexact H
/-- Every cell is known to have reached its round. -/
theorem env_reached (c : Dev nD) (i : CI) : env (F := F) m K ⊢ reached ER (kcell (c, i)) 0 := by
  unfold env; iintro ⟨-, #H, -⟩
  iapply (show (bigSep Finset.univ fun ci : Dev nD × CI => (reached ER (kcell ci) 0 : sProp 𝕄)) ⊢ reached ER (kcell (c, i)) 0
    from bigSep_elim (Finset.mem_univ (c, i))); iexact H
/-- The levels are known. -/
theorem env_lev : env (F := F) m K ⊢ levAts L lv := by unfold env; iintro ⟨-, -, #H⟩; iexact H

/-- What a device owes, whatever it has waited on. -/
def Ow (c : Dev nD) (O : CellTallies nD τ sig Unit) : sProp 𝕄 := iprop(∃ W, owes (c : Thread nD τ) O W)

section Steps
variable {I : Type}

omit [FloatOps F] in
/-- A family over the steps from `k` on: the `k`-th, and those after it. -/
theorem from7_split (k : Fin 7) (Φ : Fin 7 → sProp 𝕄) : bigSep (from7 k.val) Φ = iprop(Φ k ∗ bigSep (from7 (k.val + 1)) Φ) := by
  rw [from7_peel, bigSep_insert (from7_not_mem k)]; rfl
omit [FloatOps F] in
/-- A family over the steps up to and with `k`: the `k`-th, and those before it. -/
theorem upto7_join (k : Fin 7) (Φ : Fin 7 → sProp 𝕄) : bigSep (upto7 (k.val + 1)) Φ = iprop(Φ k ∗ bigSep (upto7 k.val) Φ) := by
  rw [upto7_grow, bigSep_insert (upto7_not_mem k)]; rfl
omit [FloatOps F] in
/-- A family over the steps before `n`, with an earlier step `k` set apart. -/
theorem upto7_focus (k : Fin 7) {n : ℕ} (h : k.val < n) (Φ : Fin 7 → sProp 𝕄) :
    bigSep (upto7 n) Φ = iprop(Φ k ∗ bigSep ((upto7 n).erase k) Φ) := by
  rw [bigSep_erase (show k ∈ upto7 n from Finset.mem_filter.mpr ⟨Finset.mem_univ _, h⟩)]; rfl
end Steps

/-! ## Signals and the barrier wait -/

/-- Before signal `n`: what is still owed, and what the remaining signals hand over. -/
def Sig (c : Dev nD) (n : ℕ) : sProp 𝕄 :=
  iprop(Ow c (OX c 3 0 + OX c 1 0 + OB c n)
    ∗ bigSep (from7 n) fun k => iprop(dutyTok ER (barCell (sh c k)) 0 k.rev ∗ slotAny (F := F) c rsRM k.rev ∗ slotAny (F := F) c agRM k.rev))

variable {m K} in
/-- One signal. -/
theorem sig_step (c : Dev nD) (k : Fin 7) {n : Dev nD} (hn : n = sh c k) {α : Type} {Q : α → sProp 𝕄}
    {f : PUnit → Prog (TpuEff nD τ sig (Elt F) Λ₀ .tc) α} :
    iprop(env m K ∗ Sig (F := F) c k.val) ⊢ iprop((Sig (F := F) c (k.val + 1) -∗ WP c (f ⟨⟩) Q)
      -∗ WP c (.op (.semSignal (n : Thread nD τ) barS 1) f) Q) := by
  subst hn
  unfold Sig Ow
  rw [from7_split k]
  iintro ⟨#HE, ⟨%W, HO⟩, ⟨Ht, Hr, Hg⟩, Hrest⟩ Hk
  iapply (Rounds.wp_signal 𝒱₀ ER (Rd m) (c : Thread nD τ) none (dst := (sh c k : Thread nD τ)) (κ := K (sh c k, none)) (r := 0)
      (d := k.rev) (mem_bar m (sh c k) k.rev)
      (show (Rd m).amount (barCell (sh c k)) 0 k.rev = 1 from amount_eq m (sh c k) none k.rev) () (OX c 3 0 + OX c 1 0 + OB c (k.val + 1)) (O₀ := OX c 3 0 + OX c 1 0 + OB c k.val)
      (by rw [OB_peel c k, ← add_assoc])) $$ [HO Ht Hr Hg]
  · isplitr; · iapply (env_inv m K (sh c k) none); iexact HE
    isplitl [HO]; · iexact HO
    isplitl [Ht]; · iexact Ht
    isplitl [Hr Hg]
    · rw [show ((sh c k : Thread nD τ), SemLoc.reg barS) = kcell (sh c k, none) from rfl, payload_eq, pay_bar, sh_sh_rev]
      isplitl [Hr] <;> iassumption
    · iapply (env_reached m K (sh c k) none); iexact HE
  iintro HO
  iapply Hk
  isplitl [HO]; · iexists W; iexact HO
  iexact Hrest

variable {m K} in
/-- The barrier wait: the landing slots of the devices this one sends to. -/
theorem bar_wait (c : Dev nD) {α : Type} {Q : α → sProp 𝕄} {f : PUnit → Prog (TpuEff nD τ sig (Elt F) Λ₀ .tc) α} :
    iprop(env m K ∗ Sig (F := F) c 7 ∗ cred (tallyAt (barCell c) () 7) ∗ atPos ER (barCell c) 0 ∅ 0) ⊢
      iprop((iprop(Ow (F := F) c (OX c 3 0 + OX c 1 0) ∗ atPos ER (barCell c) 1 ∅ 0
          ∗ bigSep Finset.univ (fun k => slotAny (F := F) (sh c k) rsRM k) ∗ bigSep Finset.univ (fun k => slotAny (F := F) (sh c k) agRM k)) -∗ WP c (f ⟨⟩) Q)
        -∗ WP c (.op (.semWait barS 7) f) Q) := by
  unfold Sig Ow
  rw [OB_end, add_zero]
  iintro ⟨#HE, ⟨⟨%W, HO⟩, -⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := OX c 3 0 + OX c 1 0) (W := W) (R := 0) (m := 0) (T := ∅)
      (by rw [expect_bar])) $$ [Hc HO Hat]
  · isplitr; · iapply (env_inv m K c none); iexact HE
    isplitl [Hc]; · iexact Hc
    isplitl [HO]; · iexact HO
    isplitr; · iapply (mayWait_bar c); iapply (env_lev m K); iexact HE
    iexact Hat
  iintro ⟨HO, Hat, -, Hp⟩
  ihave Hp' := (Entails.of_eq ((rest_bar m c).trans (bigSep_sep' _ _ _))) $$ Hp
  icases Hp' with ⟨Hr, Hg⟩
  iapply Hk
  isplitl [HO]; · iexists _; iexact HO
  isplitl [Hat]; · iexact Hat
  isplitl [Hr] <;> iassumption

/-! ## Transfers -/

/-- Before transfer `n` of array `a` (landing on array `a'`): what the remaining ones need, and the credits of those issued. -/
def Sd (c : Dev nD) (a a' : Fin 4) (src dst : Fin 7 → sProp 𝕄) (n : ℕ) : sProp 𝕄 :=
  iprop((bigSep (from7 n) fun k => iprop(src k ∗ dst k ∗ dutyTok ER (dmaCell c a k) 0 0 ∗ dutyTok ER (dmaCell (sh c k) a' k) 0 0))
    ∗ bigSep (upto7 n) fun k => cred (tallyAt (dmaCell c a k) () N))

variable {m K} in
/-- One transfer of array `a`: its source's contents land in the slot of the device addressed. -/
theorem send_step (c : Dev nD) (a a' : Fin 4) (k : Fin 7) {n : Dev nD} (hn : n = sh c k) {q : PosShare TreeShare}
    {src dst : Memref sig .tc .vmem S128x1024 .bf16} {X : S128x1024.Idx → Elt F .bf16} {O : CellTallies nD τ sig Unit}
    (hN : dst.view.amount (osem (a', k)) = N)
    (h₁ : owns (c : Thread nD τ) src q X ⊢ pay m c (some (a, k)) 0)
    (h₂ : owns (sh c k : Thread nD τ) dst fullShare X ⊢ pay m (sh c k) (some (a', k)) 0)
    {hsc : (dst : Memref sig (Dev.tc n : Thread nD τ).2.kind .vmem S128x1024 .bf16).view.ref.isScScratch = false}
    {hsrc : src.view.WordExact} {hdst : dst.view.WordExact}
    {hsem : DmaTarget.Typed .vmem (osem (a', k)) (.remote (Dev.tc n : Thread nD τ) dst (osem (a, k)) hsc)}
    {α : Type} {Q : α → sProp 𝕄} {f : PUnit → Prog (TpuEff nD τ sig (Elt F) Λ₀ .tc) α} :
    iprop(env m K ∗ Ow c (O + tallyAt (dmaCell (sh c k) a' k) () N) ∗ owns (c : Thread nD τ) src q X ∗ (∃ Y, owns (sh c k : Thread nD τ) dst fullShare Y)
        ∗ dutyTok ER (dmaCell c a k) 0 0 ∗ dutyTok ER (dmaCell (sh c k) a' k) 0 0)
      ⊢ iprop((iprop(cred (tallyAt (dmaCell c a k) () N) ∗ Ow c O) -∗ WP c (f ⟨⟩) Q)
        -∗ WP c (.op (.enqueueDma src (.remote (Dev.tc n : Thread nD τ) dst (osem (a, k)) hsc) (osem (a', k)) hsrc hdst hsem) f) Q) := by
  subst hn
  unfold Ow
  iintro ⟨#HE, ⟨%W, HO⟩, Hs, ⟨%Y, Hd⟩, Ht, Ht'⟩ Hk
  ihave Hs := (show owns (c : Thread nD τ) src q X ⊢ iprop(∃ g, ⌜src.view.read (Elt F) g = X⌝ ∗ src.view.loc (c : Thread nD τ) ↦[src.view.set]{q} g) from .rfl) $$ Hs
  icases Hs with ⟨%g, %hg, Hs⟩
  ihave Hd := (show owns (sh c k : Thread nD τ) dst fullShare Y ⊢ iprop(∃ g, ⌜dst.view.read (Elt F) g = Y⌝ ∗ dst.view.loc (sh c k : Thread nD τ) ↦[dst.view.set]{fullShare} g) from .rfl) $$ Hd
  icases Hd with ⟨%g', %hg', Hd⟩
  subst hg
  iapply (Rounds.wp_send_pointsTo 𝒱₀ ER (Rd m) (c : Thread nD τ) none (κ₁ := K (c, some (a, k))) (κ₂ := K (sh c k, some (a', k)))
      (r₁ := 0) (r₂ := 0) (d₁ := 0) (d₂ := 0) (fd := g')
      (mem_dma m c a k) (mem_dma m (sh c k) a' k)
      () () N hN (amount_eq m c (some (a, k)) 0) (amount_eq m (sh c k) (some (a', k)) 0) O rfl (W := W)
      (((owns_intro (c : Thread nD τ) src q g).trans h₁).trans (Entails.of_eq (payload_eq m c (some (a, k)) 0).symm))
      (((owns_intro (sh c k : Thread nD τ) dst fullShare _).trans (by rw [View.read_write_univ]; exact h₂)).trans
        (Entails.of_eq (payload_eq m (sh c k) (some (a', k)) 0).symm))) $$ [Hs Hd HO Ht Ht']
  · isplitr; · iapply (env_inv m K c (some (a, k))); iexact HE
    isplitr; · iapply (env_inv m K (sh c k) (some (a', k))); iexact HE
    isplitl [Hs]; · iexact Hs
    isplitl [Hd]; · iexact Hd
    isplitl [HO]; · iexact HO
    isplitl [Ht]; · iexact Ht
    isplitr; · iapply (env_reached m K c (some (a, k))); iexact HE
    isplitl [Ht']; · iexact Ht'
    iapply (env_reached m K (sh c k) (some (a', k))); iexact HE
  iintro ⟨Hc, HO⟩
  iapply Hk
  isplitl [Hc]; · iexact Hc
  iexists W; iexact HO

/-! ## Waits on transfers -/

/-- Before wait `n` on array `a`: position and credit of the remaining cells; of those waited on, position and payload. -/
def Wt (c : Dev nD) (a : Fin 4) (n : ℕ) : sProp 𝕄 :=
  iprop((bigSep (from7 n) fun k => iprop(atPos ER (dmaCell c a k) 0 ∅ 0 ∗ cred (tallyAt (dmaCell c a k) () N)))
    ∗ bigSep (upto7 n) fun k => iprop(atPos ER (dmaCell c a k) 1 ∅ 0 ∗ pay (F := F) m c (some (a, k)) 0))

variable {m K} in
/-- One wait. -/
theorem wait_step (c : Dev nD) (a : Fin 4) (k : Fin 7) {O : CellTallies nD τ sig Unit}
    (hO : (levAts L lv : sProp 𝕄) ⊢ MayWait (c : Thread nD τ) (osem (a, k)) () O)
    {src dst : Memref sig .tc .vmem S128x1024 .bf16} {hsrc : src.view.WordExact} {hdst : dst.view.WordExact}
    (hN : dst.view.dmaCredit = N)
    {α : Type} {Q : α → sProp 𝕄} {f : PUnit → Prog (TpuEff nD τ sig (Elt F) Λ₀ .tc) α} :
    iprop(env m K ∗ Ow c O ∗ Wt m c a k.val)
      ⊢ iprop((iprop(Ow c O ∗ Wt m c a (k.val + 1)) -∗ WP c (f ⟨⟩) Q)
        -∗ WP c (.op (.waitDma2 (semOf (arr a) k) src dst hsrc hdst) f) Q) := by
  unfold Ow Wt
  rw [from7_split k, upto7_join k]
  iintro ⟨#HE, ⟨%W, HO⟩, ⟨⟨Hat, Hc⟩, Hrest⟩, Hdone⟩ Hk
  iapply (Rounds.wp_wait_rest_token 𝒱₀ ER (Rd m) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, hN]; exact (expect_dma m c a k).symm)) $$ [Hc HO Hat]
  · isplitr; · iapply (env_inv m K c (some (a, k))); iexact HE
    isplitl [Hc]; · rw [hN]; iexact Hc
    isplitl [HO]; · iexact HO
    isplitr; · iapply hO; iapply (env_lev m K); iexact HE
    iexact Hat
  iintro ⟨HO, Hat, -, Hp⟩
  ihave Hp' := (Entails.of_eq (show bigSep ((Rd m).duties ((c : Thread nD τ), .dma (semOf (arr a) k)) 0 \ ∅)
      (fun d => (Rd m).payload ((c : Thread nD τ), .dma (semOf (arr a) k)) 0 d) = pay m c (some (a, k)) 0 from rest_dma m c a k)) $$ Hp
  iapply Hk
  isplitl [HO]; · iexists _; iexact HO
  isplitl [Hrest]; · iexact Hrest
  isplitl [Hat Hp']
  · isplitl [Hat]; · iexact Hat
    iexact Hp'
  iexact Hdone

omit [FloatOps F] in
/-- A device that owes nothing may wait on anything. -/
theorem mayWait_none (c : Dev nD) (s : SemLoc sig) : (levAts L lv : sProp 𝕄) ⊢ MayWait (c : Thread nD τ) s () 0 := by
  rw [MayWait_zero]; iintro -; iempintro

/-! ## Loads and stores of a slot -/

omit [FloatOps F] in
/-- To own a slot at a matrix is to hold its elements, read as that matrix with a leading axis of length one. -/
theorem slot_owns (c : Dev nD) (b : Memref sig .tc .vmem S7x128x1024 .bf16) (k : Fin 7) (q : PosShare TreeShare) (X : S128x1024.Idx → Elt F .bf16) :
    (owns (c : Thread nD τ) (slot b k) q X : sProp 𝕄)
      ⊣⊢ iprop(∃ g, ⌜(b.access (slotR k)).read (Elt F) g = unsq X⌝ ∗ ((b.access (slotR k)).loc (c : Thread nD τ) ↦[(b.access (slotR k)).set]{q} g)) := by
  have hs : (slot b k).view.set = (b.access (slotR k)).set := View.set_reshape _ _
  have hr (g) : (slot b k).view.read (Elt F) g = sqz ((b.access (slotR k)).read (Elt F) g) := rfl
  refine ⟨?_, ?_⟩
  · unfold owns; rw [hs]
    iintro ⟨%g, %hg, H⟩
    iexists g; isplitr
    · ipureintro; rw [← hg, hr, unsq_sqz]
    · iexact H
  · unfold owns; rw [hs]
    iintro ⟨%g, %hg, H⟩
    iexists g; isplitr
    · ipureintro; rw [hr, hg, sqz_unsq]
    · iexact H

/-- A slot loaded. -/
theorem slot_load (c : Dev nD) (b : Memref sig .tc .vmem S7x128x1024 .bf16) (k : Fin 7) (q : PosShare TreeShare) (X : S128x1024.Idx → Elt F .bf16)
    {hl : b.view.LoadsAt (slotR k).toLoadRect} {α : Type} {Q : α → sProp 𝕄}
    {f : ((slotR k).toLoadRect.shape.Idx → Elt F .bf16) → Prog (TpuEff nD τ sig (Elt F) Λ₀ .tc) α} :
    (owns (c : Thread nD τ) (slot b k) q X : sProp 𝕄)
      ⊢ iprop((owns (c : Thread nD τ) (slot b k) q X -∗ WP c (f (unsq X)) Q) -∗ WP c (.op (.load b (slotR k).toLoadRect hl) f) Q) := by
  iintro H Hk
  ihave H := (slot_owns c b k q X).1 $$ H
  icases H with ⟨%g, %hg, H⟩
  iapply (wp_load_rect 𝒱₀ (c : Thread nD τ) none Set.univ (m := b) (r := slotR k) (Finset.Subset.refl _)) $$ H
  iintro H
  rw [hg]
  iapply Hk
  iapply (slot_owns c b k q X).2
  iexists g; isplitr
  · ipureintro; exact hg
  · iexact H

/-- A slot stored. -/
theorem slot_store (c : Dev nD) (b : Memref sig .tc .vmem S7x128x1024 .bf16) (k : Fin 7) (w : S1x128x1024.Idx → Elt F .bf16)
    {hx : (b.access (slotR k)).Stores Finset.univ} {hm} {α : Type} {Q : α → sProp 𝕄}
    {f : PUnit → Prog (TpuEff nD τ sig (Elt F) Λ₀ .tc) α} :
    slotAny (F := F) c b k
      ⊢ iprop((owns (c : Thread nD τ) (slot b k) fullShare (sqz w) -∗ WP c (f ⟨⟩) Q) -∗ WP c (.op (.store b (slotR k) w Finset.univ hx hm) f) Q) := by
  unfold slotAny
  iintro ⟨%X, H⟩ Hk
  ihave H := (slot_owns c b k fullShare X).1 $$ H
  icases H with ⟨%g, %hg, H⟩
  iapply (wp_store 𝒱₀ (c : Thread nD τ) none Set.univ (m := b) (r := slotR k) (Mk := Finset.univ) (S := (b.access (slotR k)).set) (Finset.Subset.refl _)) $$ H
  iintro H
  iapply Hk
  iapply (slot_owns c b k fullShare (sqz w)).2
  iexists ((b.access (slotR k)).write (Elt F) g w Finset.univ); isplitr
  · ipureintro; rw [View.read_write_univ, unsq_sqz]
  · iexact H

/-- A slot loaded whose value is not used. -/
theorem slot_peek (c : Dev nD) (b : Memref sig .tc .vmem S7x128x1024 .bf16) (k : Fin 7)
    {hl : b.view.LoadsAt (slotR k).toLoadRect} {α : Type} {Q : α → sProp 𝕄} {p : Prog (TpuEff nD τ sig (Elt F) Λ₀ .tc) α}  :
    slotAny (F := F) c b k
      ⊢ iprop((slotAny (F := F) c b k -∗ WP c p Q) -∗ WP c (.op (.load b (slotR k).toLoadRect hl) fun _ => p) Q) := by
  unfold slotAny
  iintro ⟨%X, H⟩ Hk
  iapply (slot_load c b k fullShare X) $$ H
  iintro H
  iapply Hk
  iexists X; iexact H

/-! ## Rows of a matrix -/

/-- The offset of a whole matrix is zero on every axis. -/
theorem hz : (![0, 0] : Fin 2 → Nat) = fun _ => 0 := funext fun a => by fin_cases a <;> rfl

/-- Chunk `d` of the rows of `x` loaded. -/
theorem x_load (c d : Dev nD) {off : Fin 2 → Nat} (ho : off = ![128 * d.val, 0]) {inb : ∀ a, off a + S128x1024.size a ≤ S1024x1024.size a}
    {hl : (xM : Memref sig .tc .vmem S1024x1024 .bf16).view.LoadsAt (Rect.unit (s := S1024x1024) off S128x1024.size inb).toLoadRect}
    (X : (cc0_stg0_0 : Ref sig .tc).ty.Contents (Elt F)) {α : Type} {Q : α → sProp 𝕄}
    {f : ((Rect.unit (s := S1024x1024) off S128x1024.size inb).toLoadRect.shape.Idx → Elt F .bf16) → Prog (TpuEff nD τ sig (Elt F) Λ₀ .tc) α} :
    (((c : Thread nD τ).loc cc0_stg0_0) ↦{fullShare} X : sProp 𝕄)
      ⊢ iprop(((((c : Thread nD τ).loc cc0_stg0_0) ↦{fullShare} X) -∗ WP c (f (xM.view.readAt (Elt F) (rowR d).toLoadRect X)) Q)
        -∗ WP c (.op (.load xM (Rect.unit (s := S1024x1024) off S128x1024.size inb).toLoadRect hl) f) Q) := by
  subst ho
  exact wp_load 𝒱₀ (c : Thread nD τ) none Set.univ (m := xM) (Finset.subset_univ _)

variable {m} in
/-- The result's rows done so far: this device's own chunk and those of the first `n` devices gathered from. -/
def Out (c : Dev nD) (n : ℕ) : sProp 𝕄 :=
  iprop(∃ f : Buf (Elt F) ((c : Thread nD τ).loc cc0_stg3_0), ⌜∀ d : Dev nD, (d = c ∨ ∃ k : Fin 7, k.val < n ∧ d = bk c k) →
      ∀ j, f ((rowR d).emb j) = outRow m c d j⌝ ∗ (((c : Thread nD τ).loc cc0_stg3_0) ↦{fullShare} f))

/-- Row `r` of chunk `d` is row `128 d + r` of the whole. -/
theorem rowR_emb_val (d : Dev nD) (j : S128x1024.Idx) : (((rowR d).emb j) 0).val = 128 * d.val + (j 0).val := by
  show 128 * d.val + 1 * (j 0).val = _; omega
/-- A chunk of rows keeps the columns. -/
theorem rowR_emb_val1 (d : Dev nD) (j : S128x1024.Idx) : (((rowR d).emb j) 1).val = (j 1).val := by
  show 0 + 1 * (j 1).val = _; omega
/-- A row of chunk `d` belongs to device `d`. -/
theorem devOfRow_emb (d : Dev nD) (j : S128x1024.Idx) : devOfRow ((rowR d).emb j) = d := by
  apply Fin.ext
  show (((rowR d).emb j) 0).val / 128 = d.val
  rw [rowR_emb_val]
  have : (j 0).val < 128 := (j 0).isLt
  omega
/-- The place of a row of a chunk in that chunk is itself. -/
theorem inRow_emb (d : Dev nD) (j : S128x1024.Idx) : inRow ((rowR d).emb j) = j := by
  funext a
  have : (j 0).val < 128 := (j 0).isLt
  fin_cases a
  · apply Fin.ext
    show (((rowR d).emb j) 0).val % 128 = (j 0).val
    rw [rowR_emb_val]; omega
  · apply Fin.ext
    show (((rowR d).emb j) 1).val = (j 1).val
    exact rowR_emb_val1 d j
/-- A row's device and place give the row back. -/
theorem emb_inRow (i : S1024x1024.Idx) : (rowR (devOfRow i)).emb (inRow i) = i := by
  funext a
  fin_cases a
  · apply Fin.ext
    refine (rowR_emb_val _ _).trans ?_
    show 128 * ((i 0).val / 128) + (i 0).val % 128 = (i 0).val
    omega
  · apply Fin.ext; exact rowR_emb_val1 _ _

omit [FloatOps F] in
/-- Rows stored into the result: read back there, and elsewhere what was there. -/
theorem out_write (d : Dev nD) (f : (cc0_stg3_0 : Ref sig .tc).ty.Contents (Elt F)) (w : S128x1024.Idx → Elt F .f32) (d' : Dev nD) (j : S128x1024.Idx) :
    ((oM : Memref sig .tc .vmem S1024x1024 .f32).access (rowR d) : View sig .tc _ _ _).write (Elt F) f w Finset.univ ((rowR d').emb j)
      = if d' = d then w j else f ((rowR d').emb j) := by
  have hread (g : (cc0_stg3_0 : Ref sig .tc).ty.Contents (Elt F)) (i : S1024x1024.Idx) :
      (oM : Memref sig .tc .vmem S1024x1024 .f32).view.read (Elt F) g i = g i := congrFun (View.read_whole (Val := Elt F) cc0_stg3_0 g) i
  by_cases h : d' = d
  · subst h; rw [if_pos rfl]
    have := View.read_slice_write_emb (Val := Elt F) (v := (oM : Memref sig .tc .vmem S1024x1024 .f32).view) (rowR d') f w (Finset.mem_univ j)
    exact (hread _ _).symm.trans this
  · rw [if_neg h]
    have := View.read_slice_write_of_not_mem (Val := Elt F) (v := (oM : Memref sig .tc .vmem S1024x1024 .f32).view) (rowR d) f w Finset.univ
      (y := (rowR d').emb j) fun hm => h ?_
    · exact (hread _ _).symm.trans (this.trans (hread _ _))
    obtain ⟨i, -, hi⟩ := Finset.mem_map.mp hm
    have := congrArg devOfRow hi
    rw [devOfRow_emb, devOfRow_emb] at this
    exact this.symm

variable {m} in
/-- The rows of chunk `d` stored. -/
theorem out_store (c d : Dev nD) {off : Fin 2 → Nat} (ho : off = ![128 * d.val, 0]) {inb : ∀ a, off a + S128x1024.size a ≤ S1024x1024.size a}
    {w : S128x1024.Idx → Elt F .f32} (hw : w = outRow m c d) (n n' : ℕ)
    (hn : ∀ d' : Dev nD, (d' = c ∨ ∃ k : Fin 7, k.val < n' ∧ d' = bk c k) → d' = d ∨ (d' = c ∨ ∃ k : Fin 7, k.val < n ∧ d' = bk c k))
    {hx : ((oM : Memref sig .tc .vmem S1024x1024 .f32).access (Rect.unit (s := S1024x1024) off S128x1024.size inb)).Stores Finset.univ} {hm}
    {α : Type} {Q : α → sProp 𝕄} {g : PUnit → Prog (TpuEff nD τ sig (Elt F) Λ₀ .tc) α} :
    (Out (m := m) c n : sProp 𝕄)
      ⊢ iprop((Out (m := m) c n' -∗ WP c (g ⟨⟩) Q)
        -∗ WP c (.op (.store oM (Rect.unit (s := S1024x1024) off S128x1024.size inb) w Finset.univ hx hm) g) Q) := by
  subst ho; subst hw
  unfold Out
  iintro ⟨%f, %hf, H⟩ Hk
  iapply (wp_store 𝒱₀ (c : Thread nD τ) none Set.univ (m := oM) (r := rowR d) (Mk := Finset.univ) (Finset.subset_univ _)) $$ H
  iintro H
  iapply Hk
  iexists (((oM : Memref sig .tc .vmem S1024x1024 .f32).access (rowR d) : View sig .tc _ _ _).write (Elt F) f (outRow m c d) Finset.univ); isplitr
  · ipureintro
    intro d' hd' j
    rw [out_write]
    rcases hn d' hd' with h | h
    · rw [if_pos h, h]
    · by_cases h' : d' = d
      · rw [if_pos h', h']
      · rw [if_neg h']; exact hf d' h j
  · iexact H

end Cert.KernelIdeal.Mesh

end
-- ==== Proof.IdealBundles.lean ====
module

public import proofs.«01_k».proof.Proof.IdealOps

/-!
# The eight-device MLP kernel: operations on the bundles

The bundle of the transfers still to issue with its next source set apart, the loads from slots that have landed, the
loads and stores of whole buffers, and the gather source cut in seven shares.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## A transfer's units -/

/-- A reduce landing slot is worth `N` units. -/
theorem credit_rsR (k : Fin 7) : (slot rsRM k).view.dmaCredit = N := rfl
/-- A reduce sending slot is worth `N` units. -/
theorem credit_rsS (k : Fin 7) : (slot rsSM k).view.dmaCredit = N := rfl
/-- A gather landing slot is worth `N` units. -/
theorem credit_agR (k : Fin 7) : (slot agRM k).view.dmaCredit = N := rfl
/-- The gather source is worth `N` units. -/
theorem credit_agS : agSM.view.dmaCredit = N := rfl
/-- A reduce transfer adds `N` units to its receive semaphore. -/
theorem amount_rs (k : Fin 7) : (slot rsRM k).view.amount (osem (1, k)) = N := rfl
/-- A gather transfer adds `N` units to its receive semaphore. -/
theorem amount_ag (k : Fin 7) : (slot agRM k).view.amount (osem (3, k)) = N := rfl

/-! ## Transfers, the next source set apart -/

/-- The bundle of the transfers from the `k`-th on, without the `k`-th's source. -/
def SdB (c : Dev nD) (a a' : Fin 4) (src dst : Fin 7 → sProp 𝕄) (k : Fin 7) : sProp 𝕄 :=
  iprop((dst k ∗ dutyTok ER (dmaCell c a k) 0 0 ∗ dutyTok ER (dmaCell (sh c k) a' k) 0 0)
    ∗ (bigSep (from7 (k.val + 1)) fun k => iprop(src k ∗ dst k ∗ dutyTok ER (dmaCell c a k) 0 0 ∗ dutyTok ER (dmaCell (sh c k) a' k) 0 0))
    ∗ bigSep (upto7 k.val) fun k => cred (tallyAt (dmaCell c a k) () N))

/-- The bundle before transfer `k`, with that transfer's source set apart. -/
theorem sd_open (c : Dev nD) (a a' : Fin 4) (src dst : Fin 7 → sProp 𝕄) (k : Fin 7) :
    Sd c a a' src dst k.val ⊢ iprop(src k ∗ SdB c a a' src dst k) := by
  unfold Sd SdB
  rw [from7_split k]
  iintro ⟨⟨⟨Hs, Hd⟩, Hr⟩, Hc⟩
  isplitl [Hs]; · iexact Hs
  isplitl [Hd]; · iexact Hd
  isplitl [Hr] <;> iassumption

/-- The credit of transfer `k` and what was left of the bundle make up the bundle before the next transfer. -/
theorem sd_close (c : Dev nD) (a a' : Fin 4) (src dst : Fin 7 → sProp 𝕄) (k : Fin 7) :
    iprop(cred (tallyAt (dmaCell c a k) () N)
      ∗ (bigSep (from7 (k.val + 1)) fun k => iprop(src k ∗ dst k ∗ dutyTok ER (dmaCell c a k) 0 0 ∗ dutyTok ER (dmaCell (sh c k) a' k) 0 0))
      ∗ bigSep (upto7 k.val) fun k => (cred (tallyAt (dmaCell c a k) () N) : sProp 𝕄)) ⊢ Sd c a a' src dst (k.val + 1) := by
  unfold Sd
  rw [upto7_join k]
  iintro ⟨Hc, Hr, Hd⟩
  isplitl [Hr]; · iexact Hr
  isplitl [Hc] <;> iassumption

/-- The reduce transfers' sources and destinations; the gather transfers'. -/
abbrev rsS (c : Dev nD) (k : Fin 7) : sProp 𝕄 := slotAny c rsSM k
abbrev rsD (c : Dev nD) (k : Fin 7) : sProp 𝕄 := slotAny (sh c k) rsRM k
abbrev agSrc (c : Dev nD) (k : Fin 7) : sProp 𝕄 := agS m c (pc k)
abbrev agD (c : Dev nD) (k : Fin 7) : sProp 𝕄 := slotAny (sh c k) agRM k

variable {m K} in
/-- Reduce transfer `k`. -/
theorem rs_send (c : Dev nD) (k : Fin 7) {n : Dev nD} (hn : n = sh c k)
    {hsc : ((slot rsRM k) : Memref sig (Dev.tc n : Thread nD τ).2.kind .vmem S128x1024 .bf16).view.ref.isScScratch = false}
    {hsrc : (slot rsSM k).view.WordExact} {hdst : (slot rsRM k).view.WordExact}
    {hsem : DmaTarget.Typed .vmem (osem (1, k)) (.remote (Dev.tc n : Thread nD τ) (slot rsRM k) (osem (0, k)) hsc)}
    {α : Type} {Q : α → sProp 𝕄} {f : PUnit → Prog (TpuEff nD τ sig (Elt F) Λ₀ .tc) α} :
    iprop(env m K ∗ Ow c (OX c 3 0 + OX c 1 k.val) ∗ owns (c : Thread nD τ) (slot rsSM k) fullShare (part m c (sh c k)) ∗ SdB c 0 1 (rsS c) (rsD c) k)
      ⊢ iprop((iprop(Ow c (OX c 3 0 + OX c 1 (k.val + 1)) ∗ Sd c 0 1 (rsS c) (rsD c) (k.val + 1)) -∗ WP c (f ⟨⟩) Q)
        -∗ WP c (.op (.enqueueDma (slot rsSM k) (.remote (Dev.tc n : Thread nD τ) (slot rsRM k) (osem (0, k)) hsc) (osem (1, k)) hsrc hdst hsem) f) Q) := by
  rw [OX_peel c 1 k, ← add_assoc]
  unfold SdB
  iintro ⟨#HE, HO, Hs, ⟨Hd, Ht, Ht'⟩, Hr, Hc⟩ Hk
  iapply (send_step (m := m) (K := K) c 0 1 k hn (q := fullShare) (src := slot rsSM k) (dst := slot rsRM k)
    (X := part m c (sh c k)) (O := OX c 3 0 + OX c 1 (k.val + 1)) (amount_rs k)
    (by rw [pay_rsS]; unfold slotAny; iintro H; iexists _; iexact H)
    (by rw [pay_rsR, bk_sh])) $$ [HO Hs Hd Ht Ht']
  · isplitr; · iexact HE
    isplitl [HO]; · iexact HO
    isplitl [Hs]; · iexact Hs
    isplitl [Hd]; · unfold rsD slotAny; iexact Hd
    isplitl [Ht] <;> iassumption
  iintro ⟨Hc', HO⟩
  iapply Hk
  isplitl [HO]; · iexact HO
  iapply (sd_close c 0 1 (rsS c) (rsD c) k)
  isplitl [Hc']; · iexact Hc'
  isplitl [Hr] <;> iassumption

variable {m K} in
/-- Gather transfer `k`. -/
theorem ag_send (c : Dev nD) (k : Fin 7) {n : Dev nD} (hn : n = sh c k)
    {hsc : ((slot agRM k) : Memref sig (Dev.tc n : Thread nD τ).2.kind .vmem S128x1024 .bf16).view.ref.isScScratch = false}
    {hsrc : agSM.view.WordExact} {hdst : (slot agRM k).view.WordExact}
    {hsem : DmaTarget.Typed .vmem (osem (3, k)) (.remote (Dev.tc n : Thread nD τ) (slot agRM k) (osem (2, k)) hsc)}
    {α : Type} {Q : α → sProp 𝕄} {f : PUnit → Prog (TpuEff nD τ sig (Elt F) Λ₀ .tc) α} :
    iprop(env m K ∗ Ow c (OX c 3 k.val) ∗ Sd c 2 3 (agSrc m c) (agD c) k.val)
      ⊢ iprop((iprop(Ow c (OX c 3 (k.val + 1)) ∗ Sd c 2 3 (agSrc m c) (agD c) (k.val + 1)) -∗ WP c (f ⟨⟩) Q)
        -∗ WP c (.op (.enqueueDma agSM (.remote (Dev.tc n : Thread nD τ) (slot agRM k) (osem (2, k)) hsc) (osem (3, k)) hsrc hdst hsem) f) Q) := by
  rw [OX_peel c 3 k]
  iintro ⟨#HE, HO, HS⟩ Hk
  ihave HS := (sd_open c 2 3 (agSrc m c) (agD c) k) $$ HS
  unfold SdB
  icases HS with ⟨Hs, ⟨Hd, Ht, Ht'⟩, Hr, Hc⟩
  iapply (send_step (m := m) (K := K) c 2 3 k hn (q := pc k) (src := agSM) (dst := slot agRM k)
    (X := agv m c) (O := OX c 3 (k.val + 1)) (amount_ag k)
    (by rw [pay_agS]; exact .rfl)
    (by rw [pay_agR, bk_sh])) $$ [HO Hs Hd Ht Ht']
  · isplitr; · iexact HE
    isplitl [HO]; · iexact HO
    isplitl [Hs]; · unfold agSrc agS; iexact Hs
    isplitl [Hd]; · unfold agD slotAny; iexact Hd
    isplitl [Ht] <;> iassumption
  iintro ⟨Hc', HO⟩
  iapply Hk
  isplitl [HO]; · iexact HO
  iapply (sd_close c 2 3 (agSrc m c) (agD c) k)
  isplitl [Hc']; · iexact Hc'
  isplitl [Hr] <;> iassumption

/-! ## A slot that landed, loaded -/

variable {m} in
/-- Slot `k` of an array already waited on past `k` is loaded and holds what was delivered there. -/
theorem wt_load (c : Dev nD) (a : Fin 4) (b : Memref sig .tc .vmem S7x128x1024 .bf16) (k : Fin 7) (n : ℕ) (hkn : k.val < n)
    (X : S128x1024.Idx → Elt F .bf16) (hp : pay m c (some (a, k)) 0 = owns (c : Thread nD τ) (slot b k) fullShare X)
    {hl : b.view.LoadsAt (slotR k).toLoadRect} {α : Type} {Q : α → sProp 𝕄}
    {f : ((slotR k).toLoadRect.shape.Idx → Elt F .bf16) → Prog (TpuEff nD τ sig (Elt F) Λ₀ .tc) α} :
    Wt m c a n ⊢ iprop((Wt m c a n -∗ WP c (f (unsq X)) Q) -∗ WP c (.op (.load b (slotR k).toLoadRect hl) f) Q) := by
  unfold Wt
  rw [upto7_focus k hkn, hp]
  iintro ⟨Hr, ⟨Hat, H⟩, Hd⟩ Hk
  iapply (slot_load c b k fullShare X) $$ H
  iintro H
  iapply Hk
  isplitl [Hr]; · iexact Hr
  isplitl [Hat H]
  · isplitl [Hat] <;> iassumption
  iexact Hd

/-! ## Whole buffers -/

/-- The reduce buffer of this device's own chunk. -/
theorem own_load (c : Dev nD) (X : Vec F S128x1024 .f32) {inb : ∀ a, (![0, 0] : Fin 2 → Nat) a + S128x1024.size a ≤ S128x1024.size a}
    {hl : (ownM : Memref sig .tc .vmem S128x1024 .f32).view.LoadsAt (Rect.unit (s := S128x1024) ![0, 0] S128x1024.size inb).toLoadRect}
    {α : Type} {Q : α → sProp 𝕄}
    {f : ((Rect.unit (s := S128x1024) ![0, 0] S128x1024.size inb).toLoadRect.shape.Idx → Elt F .f32) → Prog (TpuEff nD τ sig (Elt F) Λ₀ .tc) α} :
    (((c : Thread nD τ).loc cc0_scratch0) ↦{fullShare} X : sProp 𝕄)
      ⊢ iprop(((((c : Thread nD τ).loc cc0_scratch0) ↦{fullShare} X) -∗ WP c (f X) Q)
        -∗ WP c (.op (.load ownM (Rect.unit (s := S128x1024) ![0, 0] S128x1024.size inb).toLoadRect hl) f) Q) := by
  iintro H Hk
  iapply (wp_load 𝒱₀ (c : Thread nD τ) none Set.univ (m := ownM) (Finset.subset_univ _)) $$ H
  iintro H
  rw [show (ownM : Memref sig .tc .vmem S128x1024 .f32).view.readAt (Elt F) (Rect.unit (s := S128x1024) ![0, 0] S128x1024.size inb).toLoadRect X = X
    from Memref.readAt_unit_zero (Elt F) cc0_scratch0 hz inb X]
  iapply Hk; iexact H

/-- The total of this device's own chunk, overwritten. -/
theorem own_store (c : Dev nD) (X w : Vec F S128x1024 .f32) {inb : ∀ a, (![0, 0] : Fin 2 → Nat) a + S128x1024.size a ≤ S128x1024.size a}
    {hx : ((ownM : Memref sig .tc .vmem S128x1024 .f32).access (Rect.unit (s := S128x1024) ![0, 0] S128x1024.size inb)).Stores Finset.univ} {hm}
    {α : Type} {Q : α → sProp 𝕄} {f : PUnit → Prog (TpuEff nD τ sig (Elt F) Λ₀ .tc) α} :
    (((c : Thread nD τ).loc cc0_scratch0) ↦{fullShare} X : sProp 𝕄)
      ⊢ iprop(((((c : Thread nD τ).loc cc0_scratch0) ↦{fullShare} w) -∗ WP c (f ⟨⟩) Q)
        -∗ WP c (.op (.store ownM (Rect.unit (s := S128x1024) ![0, 0] S128x1024.size inb) w Finset.univ hx hm) f) Q) := by
  iintro H Hk
  iapply (wp_store 𝒱₀ (c : Thread nD τ) none Set.univ (m := ownM) (r := Rect.unit (s := S128x1024) ![0, 0] S128x1024.size inb) (Mk := Finset.univ) (Finset.subset_univ _)) $$ H
  iintro H
  rw [show ((ownM : Memref sig .tc .vmem S128x1024 .f32).access (Rect.unit (s := S128x1024) ![0, 0] S128x1024.size inb) : View sig .tc _ _ _).write (Elt F) X w Finset.univ = w
    from Memref.write_access_unit_zero_univ (Elt F) cc0_scratch0 hz inb X w]
  iapply Hk; iexact H

/-- The gather source. -/
theorem ags_peek (c : Dev nD) (X : Vec F S128x1024 .bf16) {r : LoadRect S128x1024} {hl : (agSM : Memref sig .tc .vmem S128x1024 .bf16).view.LoadsAt r}
    {α : Type} {Q : α → sProp 𝕄} {p : Prog (TpuEff nD τ sig (Elt F) Λ₀ .tc) α} :
    (((c : Thread nD τ).loc cc0_scratch3) ↦{fullShare} X : sProp 𝕄)
      ⊢ iprop(((((c : Thread nD τ).loc cc0_scratch3) ↦{fullShare} X) -∗ WP c p Q) -∗ WP c (.op (.load agSM r hl) fun _ => p) Q) := by
  iintro H Hk
  iapply (wp_load 𝒱₀ (c : Thread nD τ) none Set.univ (m := agSM) (Finset.subset_univ _)) $$ H
  iintro H
  iapply Hk; iexact H

/-- The gather source, overwritten. -/
theorem ags_store (c : Dev nD) (X w : Vec F S128x1024 .bf16) {inb : ∀ a, (![0, 0] : Fin 2 → Nat) a + S128x1024.size a ≤ S128x1024.size a}
    {hx : ((agSM : Memref sig .tc .vmem S128x1024 .bf16).access (Rect.unit (s := S128x1024) ![0, 0] S128x1024.size inb)).Stores Finset.univ} {hm}
    {α : Type} {Q : α → sProp 𝕄} {f : PUnit → Prog (TpuEff nD τ sig (Elt F) Λ₀ .tc) α} :
    (((c : Thread nD τ).loc cc0_scratch3) ↦{fullShare} X : sProp 𝕄)
      ⊢ iprop(((((c : Thread nD τ).loc cc0_scratch3) ↦{fullShare} w) -∗ WP c (f ⟨⟩) Q)
        -∗ WP c (.op (.store agSM (Rect.unit (s := S128x1024) ![0, 0] S128x1024.size inb) w Finset.univ hx hm) f) Q) := by
  iintro H Hk
  iapply (wp_store 𝒱₀ (c : Thread nD τ) none Set.univ (m := agSM) (r := Rect.unit (s := S128x1024) ![0, 0] S128x1024.size inb) (Mk := Finset.univ) (Finset.subset_univ _)) $$ H
  iintro H
  rw [show ((agSM : Memref sig .tc .vmem S128x1024 .bf16).access (Rect.unit (s := S128x1024) ![0, 0] S128x1024.size inb) : View sig .tc _ _ _).write (Elt F) X w Finset.univ = w
    from Memref.write_access_unit_zero_univ (Elt F) cc0_scratch3 hz inb X w]
  iapply Hk; iexact H

/-- The weights. -/
theorem w1_load (c : Dev nD) (X : Vec F S1024x2048 .bf16) {inb : ∀ a, (![0, 0] : Fin 2 → Nat) a + S1024x2048.size a ≤ S1024x2048.size a}
    {hl : (w1M : Memref sig .tc .vmem S1024x2048 .bf16).view.LoadsAt (Rect.unit (s := S1024x2048) ![0, 0] S1024x2048.size inb).toLoadRect}
    {α : Type} {Q : α → sProp 𝕄}
    {f : ((Rect.unit (s := S1024x2048) ![0, 0] S1024x2048.size inb).toLoadRect.shape.Idx → Elt F .bf16) → Prog (TpuEff nD τ sig (Elt F) Λ₀ .tc) α} :
    (((c : Thread nD τ).loc cc0_stg1_0) ↦{fullShare} X : sProp 𝕄)
      ⊢ iprop(((((c : Thread nD τ).loc cc0_stg1_0) ↦{fullShare} X) -∗ WP c (f X) Q)
        -∗ WP c (.op (.load w1M (Rect.unit (s := S1024x2048) ![0, 0] S1024x2048.size inb).toLoadRect hl) f) Q) := by
  iintro H Hk
  iapply (wp_load 𝒱₀ (c : Thread nD τ) none Set.univ (m := w1M) (Finset.subset_univ _)) $$ H
  iintro H
  rw [show (w1M : Memref sig .tc .vmem S1024x2048 .bf16).view.readAt (Elt F) (Rect.unit (s := S1024x2048) ![0, 0] S1024x2048.size inb).toLoadRect X = X
    from Memref.readAt_unit_zero (Elt F) cc0_stg1_0 hz inb X]
  iapply Hk; iexact H

/-- The second weight matrix, loaded whole. -/
theorem w2_load (c : Dev nD) (X : Vec F S2048x1024 .bf16) {inb : ∀ a, (![0, 0] : Fin 2 → Nat) a + S2048x1024.size a ≤ S2048x1024.size a}
    {hl : (w2M : Memref sig .tc .vmem S2048x1024 .bf16).view.LoadsAt (Rect.unit (s := S2048x1024) ![0, 0] S2048x1024.size inb).toLoadRect}
    {α : Type} {Q : α → sProp 𝕄}
    {f : ((Rect.unit (s := S2048x1024) ![0, 0] S2048x1024.size inb).toLoadRect.shape.Idx → Elt F .bf16) → Prog (TpuEff nD τ sig (Elt F) Λ₀ .tc) α} :
    (((c : Thread nD τ).loc cc0_stg2_0) ↦{fullShare} X : sProp 𝕄)
      ⊢ iprop(((((c : Thread nD τ).loc cc0_stg2_0) ↦{fullShare} X) -∗ WP c (f X) Q)
        -∗ WP c (.op (.load w2M (Rect.unit (s := S2048x1024) ![0, 0] S2048x1024.size inb).toLoadRect hl) f) Q) := by
  iintro H Hk
  iapply (wp_load 𝒱₀ (c : Thread nD τ) none Set.univ (m := w2M) (Finset.subset_univ _)) $$ H
  iintro H
  rw [show (w2M : Memref sig .tc .vmem S2048x1024 .bf16).view.readAt (Elt F) (Rect.unit (s := S2048x1024) ![0, 0] S2048x1024.size inb).toLoadRect X = X
    from Memref.readAt_unit_zero (Elt F) cc0_stg2_0 hz inb X]
  iapply Hk; iexact H

/-! ## The result's rows not yet stored, read -/

variable {m} in
/-- A load of the result's buffer whose value is not used leaves the rows stored so far. -/
theorem out_peek (c : Dev nD) (n : ℕ) {r : LoadRect S1024x1024} {hl : (oM : Memref sig .tc .vmem S1024x1024 .f32).view.LoadsAt r}
    {α : Type} {Q : α → sProp 𝕄} {p : Prog (TpuEff nD τ sig (Elt F) Λ₀ .tc) α} :
    Out (F := F) (m := m) c n ⊢ iprop((Out (m := m) c n -∗ WP c p Q) -∗ WP c (.op (.load oM r hl) fun _ => p) Q) := by
  unfold Out
  iintro ⟨%f, %hf, H⟩ Hk
  iapply (wp_load 𝒱₀ (c : Thread nD τ) none Set.univ (m := oM) (Finset.subset_univ _)) $$ H
  iintro H
  iapply Hk
  iexists f; isplitr
  · ipureintro; exact hf
  · iexact H

/-! ## The gather source in seven shares -/

/-- The gather source at a share is its points-to at that share. -/
theorem agS_eq (c : Dev nD) (q : PosShare TreeShare) : agS m c q = (((c : Thread nD τ).loc cc0_scratch3) ↦{q} agv m c) := owns_whole _ _ _ _

omit [FloatOps F] in
/-- A buffer's points-to in the seven shares the gather transfers borrow. -/
theorem seven_shares {ℓ : Loc nD τ sig} (f : Buf (Elt F) ℓ) :
    (ℓ ↦{fullShare} f : sProp 𝕄) ⊣⊢ bigSep Finset.univ (fun k => (ℓ ↦{pc k} f)) := by
  have h := Ring.pointsTo_nths (Val := Elt F) (Ix := Unit) (Name := ℕ) (U := UU) (Lvl := ℕ) (ℓ := ℓ) (I := Finset.univ) f 6 fullShare
  rw [bigSep_univ_eq_bigSepL (List.finRange 7) (by decide) (List.nodup_finRange 7)]
  exact h

/-- The whole gather source is the seven shares of it that the transfers borrow. -/
theorem agS_split (c : Dev nD) : agS m c fullShare ⊣⊢ bigSep Finset.univ (agSrc m c) := by
  rw [show agSrc m c = fun k => (((c : Thread nD τ).loc cc0_scratch3) ↦{pc k} agv m c) from funext fun k => agS_eq m c (pc k), agS_eq]
  exact seven_shares _

/-! ## The kernel's parts compute the same shares, sums and copies -/

/-- This step computes the same share as the first. -/
theorem pay4_eq (W1 : Vec F S1024x2048 .bf16) (W2 : Vec F S2048x1024 .bf16) (x : Vec F S128x1024 .bf16) : k0_pay4 (k0_pay1 W1) (k0_pay2 W2) x = k0_pay3 W1 W2 x := rfl
/-- This step computes the same share as the first. -/
theorem pay5_eq (W1 : Vec F S1024x2048 .bf16) (W2 : Vec F S2048x1024 .bf16) (x : Vec F S128x1024 .bf16) : k0_pay5 (k0_pay1 W1) (k0_pay2 W2) x = k0_pay3 W1 W2 x := rfl
/-- This step computes the same share as the first. -/
theorem pay6_eq (W1 : Vec F S1024x2048 .bf16) (W2 : Vec F S2048x1024 .bf16) (x : Vec F S128x1024 .bf16) : k0_pay6 (k0_pay1 W1) (k0_pay2 W2) x = k0_pay3 W1 W2 x := rfl
/-- This step computes the same share as the first. -/
theorem pay10_eq (W1 : Vec F S1024x2048 .bf16) (W2 : Vec F S2048x1024 .bf16) (x : Vec F S128x1024 .bf16) : k0_pay10 (k0_pay1 W1) (k0_pay2 W2) x = k0_pay3 W1 W2 x := rfl
/-- This step computes the same share as the first. -/
theorem pay11_eq (W1 : Vec F S1024x2048 .bf16) (W2 : Vec F S2048x1024 .bf16) (x : Vec F S128x1024 .bf16) : k0_pay11 (k0_pay1 W1) (k0_pay2 W2) x = k0_pay3 W1 W2 x := rfl
/-- This step computes the same share as the first. -/
theorem pay9_eq (W1 : Vec F S1024x2048 .bf16) (W2 : Vec F S2048x1024 .bf16) (x : Vec F S128x1024 .bf16) : k0_pay9 (k0_pay2 W2) (k0_pay7 (k0_pay1 W1) x) k0_pay8 = k0_pay3 W1 W2 x := rfl
/-- This step adds a piece to the total as the others do. -/
theorem pay14_eq (o : Vec F S128x1024 .f32) (s : Vec F S1x128x1024 .bf16) : k0_pay14 (k0_pay13 o s) = k0_pay15 o s := rfl
/-- This step adds a piece to the total as the others do. -/
theorem pay16_eq (o : Vec F S128x1024 .f32) (s : Vec F S1x128x1024 .bf16) : k0_pay16 o s = k0_pay15 o s := rfl
/-- This step adds a piece to the total as the others do. -/
theorem pay17_eq (o : Vec F S128x1024 .f32) (s : Vec F S1x128x1024 .bf16) : k0_pay17 o s = k0_pay15 o s := rfl
/-- This step adds a piece to the total as the others do. -/
theorem pay18_eq (o : Vec F S128x1024 .f32) (s : Vec F S1x128x1024 .bf16) : k0_pay18 o s = k0_pay15 o s := rfl
/-- This step adds a piece to the total as the others do. -/
theorem pay19_eq (o : Vec F S128x1024 .f32) (s : Vec F S1x128x1024 .bf16) : k0_pay19 o s = k0_pay15 o s := rfl
/-- This step adds a piece to the total as the others do. -/
theorem pay20_eq (o : Vec F S128x1024 .f32) (s : Vec F S1x128x1024 .bf16) : k0_pay20 o s = k0_pay15 o s := rfl
/-- This step widens a gathered total as the others do. -/
theorem pay22_eq (s : Vec F S1x128x1024 .bf16) : k0_pay22 (F := F) s = k0_pay23 s := rfl
/-- This step widens a gathered total as the others do. -/
theorem pay24_eq (s : Vec F S1x128x1024 .bf16) : k0_pay24 (F := F) s = k0_pay23 s := rfl
/-- This step widens a gathered total as the others do. -/
theorem pay25_eq (s : Vec F S1x128x1024 .bf16) : k0_pay25 (F := F) s = k0_pay23 s := rfl
/-- This step widens a gathered total as the others do. -/
theorem pay26_eq (s : Vec F S1x128x1024 .bf16) : k0_pay26 (F := F) s = k0_pay23 s := rfl
/-- This step widens a gathered total as the others do. -/
theorem pay27_eq (s : Vec F S1x128x1024 .bf16) : k0_pay27 (F := F) s = k0_pay23 s := rfl
/-- This step widens a gathered total as the others do. -/
theorem pay28_eq (s : Vec F S1x128x1024 .bf16) : k0_pay28 (F := F) s = k0_pay23 s := rfl

end Cert.KernelIdeal.Mesh

end
-- ==== Proof.IdealSteps.lean ====
module

public import proofs.«01_k».proof.Proof.IdealBundles

/-!
# The eight-device MLP kernel: one step of each kind, between two counts

The lemmas of the operations, each from what a device holds before a step to what it holds after, with the counts
before and after named.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A part of the body, run before the rest. -/
theorem seq {c : Dev nD} {α β : Type} {p : Prog (TpuEff nD τ sig (Elt F) Λ₀ .tc) α} {f : α → Prog (TpuEff nD τ sig (Elt F) Λ₀ .tc) β}
    {P : sProp 𝕄} {Φ : α → sProp 𝕄} {Q : β → sProp 𝕄} (h : P ⊢ WP c p Φ) :
    P ⊢ iprop((∀ a, Φ a -∗ WP c (f a) Q) -∗ WP c (p >>= f) Q) := by
  unfold WP
  rw [wp_bind]
  exact h.trans (wp_wand _ _ _)

/-! ## The rows a step addresses -/

/-- The rows step `k` sends are the chunk of the device it sends to. -/
theorem off1_sh (c : Dev nD) (k : Fin 7) : k0_off1 c (BitVec.ofNat 32 k.val) = ![128 * (sh c k).val, 0] := by
  rw [k0_off1_eq c k]; show _ = ![128 * ((c.val + 1 + k.val) % 8), 0]; rw [Nat.add_right_comm]
/-- The rows a device keeps are its own chunk's. -/
theorem off2_self (c : Dev nD) : k0_off2 c = ![128 * c.val, 0] := k0_off2_eq c
/-- The rows step `k` stores are the chunk of the device it received from. -/
theorem off3_bk (c : Dev nD) (k : Fin 7) : k0_off3 c (BitVec.ofNat 32 k.val) = ![128 * (bk c k).val, 0] := by
  rw [k0_off3_eq c k]; show _ = ![128 * ((c.val + 7 - k.val) % 8), 0]
  have := k.isLt
  have : (c.val + 15 - k.val) % 8 = (c.val + 7 - k.val) % 8 := by omega
  rw [this]

/-! ## States -/

/-- `x`'s points-to, and the buffer of this device's own chunk. -/
abbrev xP (c : Dev nD) : sProp 𝕄 := (((c : Thread nD τ).loc cc0_stg0_0) ↦{fullShare} xV m c)
abbrev w1P (c : Dev nD) : sProp 𝕄 := (((c : Thread nD τ).loc cc0_stg1_0) ↦{fullShare} w1V m c)
abbrev w2P (c : Dev nD) : sProp 𝕄 := (((c : Thread nD τ).loc cc0_stg2_0) ↦{fullShare} w2V m c)
abbrev ownP (c : Dev nD) (X : Vec F S128x1024 .f32) : sProp 𝕄 := (((c : Thread nD τ).loc cc0_scratch0) ↦{fullShare} X)

/-- The first `n` reduce transfers issued. -/
def Snt (c : Dev nD) (n : ℕ) : sProp 𝕄 := iprop(Ow c (OX c 3 0 + OX c 1 n) ∗ Sd c 0 1 (rsS c) (rsD (F := F) c) n)
/-- The first `k` issued and slot `k` filled. -/
def Rdy (c : Dev nD) (k : Fin 7) : sProp 𝕄 :=
  iprop(Ow c (OX c 3 0 + OX c 1 k.val) ∗ owns (c : Thread nD τ) (slot rsSM k) fullShare (part m c (sh c k)) ∗ SdB c 0 1 (rsS c) (rsD c) k)
/-- The first `n` gather transfers issued. -/
def Gat (c : Dev nD) (n : ℕ) : sProp 𝕄 := iprop(Ow c (OX c 3 n) ∗ Sd c 2 3 (agSrc m c) (agD c) n)
/-- The first `n` of the reduce receives done. -/
def Red (c : Dev nD) (n : ℕ) : sProp 𝕄 := iprop(Ow c (OX c 3 0) ∗ Wt m c 1 n)
/-- The first `n` of the waits on array `a` done, owing nothing. -/
def Fin' (c : Dev nD) (a : Fin 4) (n : ℕ) : sProp 𝕄 := iprop(Ow c 0 ∗ Wt m c a n)

/-! ## Steps -/

section
variable {m K}
variable (c : Dev nD) (k : Fin 7) (j j' : ℕ) (hj : k.val = j) (hj' : k.val + 1 = j')

include hj hj' in
/-- One signal to the barrier of the device `k + 1` places on. -/
theorem sgnl {α : Type} {Q : α → sProp 𝕄} {n : Dev nD} (hn : n = sh c k) {f : PUnit → Prog (TpuEff nD τ sig (Elt F) Λ₀ .tc) α} :
    env m K ⊢ iprop(Sig (F := F) c j -∗ (Sig (F := F) c j' -∗ WP c (f ⟨⟩) Q) -∗ WP c (.op (.semSignal (n : Thread nD τ) barS 1) f) Q) := by
  subst hj hj'; exact BI.wand_intro (sig_step c k hn)

include hj in
/-- A load of the next sending slot whose value is not used. -/
theorem peek {α : Type} {Q : α → sProp 𝕄} {hl : (rsSM : Memref sig .tc .vmem S7x128x1024 .bf16).view.LoadsAt (slotR k).toLoadRect} {p : Prog (TpuEff nD τ sig (Elt F) Λ₀ .tc) α} :
    Snt (F := F) c j ⊢ iprop((Snt (F := F) c j -∗ WP c p Q) -∗ WP c (.op (.load rsSM (slotR k).toLoadRect hl) fun _ => p) Q) := by
  subst hj
  unfold Snt Sd
  rw [from7_split k]
  iintro ⟨HO, ⟨⟨Hs, Hd⟩, Hr⟩, Hc⟩ Hk
  iapply (slot_peek c rsSM k) $$ Hs
  iintro Hs
  iapply Hk
  isplitl [HO]; · iexact HO
  isplitr [Hc]
  · isplitr [Hr]
    · isplitl [Hs] <;> iassumption
    · iexact Hr
  · iexact Hc

include hj in
/-- The next sending slot filled with the share to be sent. -/
theorem fill {α : Type} {Q : α → sProp 𝕄} {w : S1x128x1024.Idx → Elt F .bf16} (hw : w = k0_pay3 (w1V m c) (w2V m c) (xch m c (sh c k)))
    {hx : ((rsSM : Memref sig .tc .vmem S7x128x1024 .bf16).access (slotR k)).Stores Finset.univ} {hm}
    {f : PUnit → Prog (TpuEff nD τ sig (Elt F) Λ₀ .tc) α} :
    Snt (F := F) c j ⊢ iprop((Rdy m c k -∗ WP c (f ⟨⟩) Q) -∗ WP c (.op (.store rsSM (slotR k) w Finset.univ hx hm) f) Q) := by
  subst hj hw
  unfold Snt Rdy
  iintro ⟨HO, HS⟩ Hk
  ihave HS := (sd_open c 0 1 (rsS c) (rsD c) k) $$ HS
  icases HS with ⟨Hs, HS⟩
  iapply (slot_store c rsSM k _) $$ Hs
  iintro Hs
  iapply Hk
  isplitl [HO]; · iexact HO
  isplitl [Hs]
  · unfold part; iexact Hs
  · iexact HS

include hj' in
/-- One reduce transfer issued. -/
theorem send {α : Type} {Q : α → sProp 𝕄} {n : Dev nD} (hn : n = sh c k)
    {hsc : ((slot rsRM k) : Memref sig (Dev.tc n : Thread nD τ).2.kind .vmem S128x1024 .bf16).view.ref.isScScratch = false}
    {hsrc : (slot rsSM k).view.WordExact} {hdst : (slot rsRM k).view.WordExact}
    {hsem : DmaTarget.Typed .vmem (osem (1, k)) (.remote (Dev.tc n : Thread nD τ) (slot rsRM k) (osem (0, k)) hsc)}
    {f : PUnit → Prog (TpuEff nD τ sig (Elt F) Λ₀ .tc) α} :
    env m K ⊢ iprop(Rdy m c k -∗ (Snt (F := F) c j' -∗ WP c (f ⟨⟩) Q)
        -∗ WP c (.op (.enqueueDma (slot rsSM k) (.remote (Dev.tc n : Thread nD τ) (slot rsRM k) (osem (0, k)) hsc) (osem (1, k)) hsrc hdst hsem) f) Q) := by
  subst hj'; exact BI.wand_intro (rs_send c k hn)

include hj hj' in
/-- One gather transfer issued. -/
theorem gsend {α : Type} {Q : α → sProp 𝕄} {n : Dev nD} (hn : n = sh c k)
    {hsc : ((slot agRM k) : Memref sig (Dev.tc n : Thread nD τ).2.kind .vmem S128x1024 .bf16).view.ref.isScScratch = false}
    {hsrc : agSM.view.WordExact} {hdst : (slot agRM k).view.WordExact}
    {hsem : DmaTarget.Typed .vmem (osem (3, k)) (.remote (Dev.tc n : Thread nD τ) (slot agRM k) (osem (2, k)) hsc)}
    {f : PUnit → Prog (TpuEff nD τ sig (Elt F) Λ₀ .tc) α} :
    env m K ⊢ iprop(Gat m c j -∗ (Gat m c j' -∗ WP c (f ⟨⟩) Q)
        -∗ WP c (.op (.enqueueDma agSM (.remote (Dev.tc n : Thread nD τ) (slot agRM k) (osem (2, k)) hsc) (osem (3, k)) hsrc hdst hsem) f) Q) := by
  subst hj hj'; exact BI.wand_intro (ag_send c k hn)

include hj hj' in
/-- One wait on a reduce receive. -/
theorem rwait {α : Type} {Q : α → sProp 𝕄} {src dst : Memref sig .tc .vmem S128x1024 .bf16} {hsrc : src.view.WordExact} {hdst : dst.view.WordExact}
    (hN : dst.view.dmaCredit = N) {f : PUnit → Prog (TpuEff nD τ sig (Elt F) Λ₀ .tc) α} :
    env m K ⊢ iprop(Red m c j -∗ (Red m c j' -∗ WP c (f ⟨⟩) Q) -∗ WP c (.op (.waitDma2 (semOf (arr 1) k) src dst hsrc hdst) f) Q) := by
  subst hj hj'; exact BI.wand_intro (wait_step (F := F) c 1 k (mayWait_rs (F := F) c k) hN)

include hj hj' in
/-- One wait by a device that owes nothing. -/
theorem fwait {α : Type} {Q : α → sProp 𝕄} (a : Fin 4) {src dst : Memref sig .tc .vmem S128x1024 .bf16} {hsrc : src.view.WordExact} {hdst : dst.view.WordExact}
    (hN : dst.view.dmaCredit = N) {f : PUnit → Prog (TpuEff nD τ sig (Elt F) Λ₀ .tc) α} :
    env m K ⊢ iprop(Fin' m c a j -∗ (Fin' m c a j' -∗ WP c (f ⟨⟩) Q) -∗ WP c (.op (.waitDma2 (semOf (arr a) k) src dst hsrc hdst) f) Q) := by
  subst hj hj'; exact BI.wand_intro (wait_step (F := F) c a k (mayWait_none (F := F) c _) hN)

/-- A piece that landed, loaded. -/
theorem rload {α : Type} {Q : α → sProp 𝕄} (n : ℕ) (hkn : k.val < n) {hl : (rsRM : Memref sig .tc .vmem S7x128x1024 .bf16).view.LoadsAt (slotR k).toLoadRect}
    {f : ((slotR k).toLoadRect.shape.Idx → Elt F .bf16) → Prog (TpuEff nD τ sig (Elt F) Λ₀ .tc) α} :
    Red m c n ⊢ iprop((Red m c n -∗ WP c (f (unsq (part m (bk c k) c))) Q) -∗ WP c (.op (.load rsRM (slotR k).toLoadRect hl) f) Q) := by
  unfold Red
  iintro ⟨HO, HW⟩ Hk
  iapply (wt_load c 1 rsRM k n hkn _ (pay_rsR m c k 0)) $$ HW
  iintro HW
  iapply Hk
  isplitl [HO] <;> iassumption

/-- A total that landed, loaded. -/
theorem gload {α : Type} {Q : α → sProp 𝕄} (n : ℕ) (hkn : k.val < n) {hl : (agRM : Memref sig .tc .vmem S7x128x1024 .bf16).view.LoadsAt (slotR k).toLoadRect}
    {f : ((slotR k).toLoadRect.shape.Idx → Elt F .bf16) → Prog (TpuEff nD τ sig (Elt F) Λ₀ .tc) α} :
    Fin' m c 3 n ⊢ iprop((Fin' m c 3 n -∗ WP c (f (unsq (agv m (bk c k)))) Q) -∗ WP c (.op (.load agRM (slotR k).toLoadRect hl) f) Q) := by
  unfold Fin'
  iintro ⟨HO, HW⟩ Hk
  iapply (wt_load c 3 agRM k n hkn _ (pay_agR m c k 0)) $$ HW
  iintro HW
  iapply Hk
  isplitl [HO] <;> iassumption

include hj hj' in
/-- The rows of one gathered total stored in the result. -/
theorem ostore {α : Type} {Q : α → sProp 𝕄} {off : Fin 2 → Nat} (ho : off = ![128 * (bk c k).val, 0]) {inb : ∀ a, off a + S128x1024.size a ≤ S1024x1024.size a}
    {w : S128x1024.Idx → Elt F .f32} (hw : w = k0_pay23 (unsq (agv m (bk c k))))
    {hx : ((oM : Memref sig .tc .vmem S1024x1024 .f32).access (Rect.unit (s := S1024x1024) off S128x1024.size inb)).Stores Finset.univ} {hm}
    {g : PUnit → Prog (TpuEff nD τ sig (Elt F) Λ₀ .tc) α} :
    (Out (m := m) c j : sProp 𝕄) ⊢ iprop((Out (m := m) c j' -∗ WP c (g ⟨⟩) Q)
        -∗ WP c (.op (.store oM (Rect.unit (s := S1024x1024) off S128x1024.size inb) w Finset.univ hx hm) g) Q) := by
  subst hj hj'
  refine out_store c (bk c k) ho (hw.trans ?_) k.val (k.val + 1) ?_
  · unfold outRow; rw [if_neg (bk_ne c k)]
  · rintro d (h | ⟨i, hi, h⟩)
    · exact .inr (.inl h)
    · rcases Nat.lt_or_ge i.val k.val with h' | h'
      · exact .inr (.inr ⟨i, h', h⟩)
      · exact .inl (h.trans (congrArg (bk c) (Fin.ext (by omega))))

end

/-- The result's buffer before any row is stored, looked at. -/
theorem ofirst_peek (c : Dev nD) (f : (cc0_stg3_0 : Ref sig .tc).ty.Contents (Elt F)) {r : LoadRect S1024x1024} {hl : (oM : Memref sig .tc .vmem S1024x1024 .f32).view.LoadsAt r}
    {α : Type} {Q : α → sProp 𝕄} {p : Prog (TpuEff nD τ sig (Elt F) Λ₀ .tc) α} :
    (((c : Thread nD τ).loc cc0_stg3_0) ↦{fullShare} f : sProp 𝕄)
      ⊢ iprop(((((c : Thread nD τ).loc cc0_stg3_0) ↦{fullShare} f) -∗ WP c p Q) -∗ WP c (.op (.load oM r hl) fun _ => p) Q) := by
  iintro H Hk
  iapply (wp_load 𝒱₀ (c : Thread nD τ) none Set.univ (m := oM) (Finset.subset_univ _)) $$ H
  iintro H
  iapply Hk; iexact H

variable {m} in
/-- This device's own rows stored. -/
theorem ofirst_store (c : Dev nD) (f : (cc0_stg3_0 : Ref sig .tc).ty.Contents (Elt F)) {off : Fin 2 → Nat} (ho : off = ![128 * c.val, 0])
    {inb : ∀ a, off a + S128x1024.size a ≤ S1024x1024.size a}
    {w : S128x1024.Idx → Elt F .f32} (hw : w = tot m c)
    {hx : ((oM : Memref sig .tc .vmem S1024x1024 .f32).access (Rect.unit (s := S1024x1024) off S128x1024.size inb)).Stores Finset.univ} {hm}
    {α : Type} {Q : α → sProp 𝕄} {g : PUnit → Prog (TpuEff nD τ sig (Elt F) Λ₀ .tc) α} :
    (((c : Thread nD τ).loc cc0_stg3_0) ↦{fullShare} f : sProp 𝕄)
      ⊢ iprop((Out (m := m) c 0 -∗ WP c (g ⟨⟩) Q)
        -∗ WP c (.op (.store oM (Rect.unit (s := S1024x1024) off S128x1024.size inb) w Finset.univ hx hm) g) Q) := by
  subst ho; subst hw
  unfold Out
  iintro H Hk
  iapply (wp_store 𝒱₀ (c : Thread nD τ) none Set.univ (m := oM) (r := rowR c) (Mk := Finset.univ) (Finset.subset_univ _)) $$ H
  iintro H
  iapply Hk
  iexists (((oM : Memref sig .tc .vmem S1024x1024 .f32).access (rowR c) : View sig .tc _ _ _).write (Elt F) f (tot m c) Finset.univ); isplitr
  · ipureintro
    rintro d (h | ⟨k, hk, _⟩) j
    · rw [out_write, if_pos h]; unfold outRow; rw [if_pos h]
    · exact absurd hk (Nat.not_lt_zero _)
  · iexact H

/-! ## Running totals and the passages between states -/

/-- The running total after one more piece. -/
theorem acc_succ (c : Dev nD) (k : Fin 7) : acc m c (k.val + 1) = k0_pay15 (acc m c k.val) (unsq (part m (bk c k) c)) := by
  rw [acc, dif_pos k.isLt]

variable {m} in
/-- The running total stored with one more piece added. -/
theorem astore (c : Dev nD) (k : Fin 7) (j j' : ℕ) (hj : k.val = j) (hj' : k.val + 1 = j') (X : Vec F S128x1024 .f32) {w : Vec F S128x1024 .f32}
    (hw : w = k0_pay15 (acc m c j) (unsq (part m (bk c k) c)))
    {inb : ∀ a, (![0, 0] : Fin 2 → Nat) a + S128x1024.size a ≤ S128x1024.size a}
    {hx : ((ownM : Memref sig .tc .vmem S128x1024 .f32).access (Rect.unit (s := S128x1024) ![0, 0] S128x1024.size inb)).Stores Finset.univ} {hm}
    {α : Type} {Q : α → sProp 𝕄} {f : PUnit → Prog (TpuEff nD τ sig (Elt F) Λ₀ .tc) α} :
    (ownP c X : sProp 𝕄) ⊢ iprop((ownP c (acc m c j') -∗ WP c (f ⟨⟩) Q)
        -∗ WP c (.op (.store ownM (Rect.unit (s := S128x1024) ![0, 0] S128x1024.size inb) w Finset.univ hx hm) f) Q) := by
  subst hj hj' hw
  rw [acc_succ]
  exact own_store c X _

/-- The slots to send from and the tokens of the reduce transfers. -/
def SndB (c : Dev nD) : sProp 𝕄 :=
  bigSep Finset.univ fun k => iprop(slotAny (F := F) c rsSM k ∗ dutyTok ER (dmaCell c 0 k) 0 0 ∗ dutyTok ER (dmaCell (sh c k) 1 k) 0 0)
/-- The tokens of the gather transfers. -/
def GatB (c : Dev nD) : sProp 𝕄 :=
  bigSep Finset.univ fun k => iprop(dutyTok ER (dmaCell c 2 k) 0 0 ∗ dutyTok ER (dmaCell (sh c k) 3 k) 0 0)

omit [FloatOps F] in
/-- Three assertions put in order, the last of the first two moved to the end. -/
theorem move_last (A B D : sProp 𝕄) : iprop((A ∗ B) ∗ D) ⊢ iprop(A ∗ D ∗ B) := by
  iintro ⟨⟨Hs, Ht⟩, Hd⟩
  isplitl [Hs]; · iexact Hs
  isplitl [Hd] <;> iassumption
omit [FloatOps F] in
/-- Three assertions put in order, the first moved to the end. -/
theorem move_first (A B D : sProp 𝕄) : iprop(B ∗ A ∗ D) ⊢ iprop(A ∗ D ∗ B) := by
  iintro ⟨Ht, Hs, Hd⟩
  isplitl [Hs]; · iexact Hs
  isplitl [Hd] <;> iassumption

/-- The sending slots, the tokens and the landing slots received at the barrier are the state before the first reduce transfer. -/
theorem snt_intro (c : Dev nD) :
    iprop(Ow c (OX c 3 0 + OX c 1 0) ∗ SndB (F := F) c ∗ bigSep Finset.univ fun k => slotAny (F := F) (sh c k) rsRM k) ⊢ Snt (F := F) c 0 := by
  unfold Snt SndB Sd
  rw [from7_zero, upto7_zero, bigSep_empty]
  iintro ⟨HO, HB, Hd⟩
  isplitl [HO]; · iexact HO
  isplitl [HB Hd]
  · iapply (show iprop((bigSep Finset.univ fun k => iprop(slotAny (F := F) c rsSM k ∗ dutyTok ER (dmaCell c 0 k) 0 0 ∗ dutyTok ER (dmaCell (sh c k) 1 k) 0 0))
        ∗ bigSep Finset.univ fun k => slotAny (F := F) (sh c k) rsRM k)
      ⊢ bigSep Finset.univ fun k => iprop(rsS c k ∗ rsD c k ∗ dutyTok ER (dmaCell c 0 k) 0 0 ∗ dutyTok ER (dmaCell (sh c k) 1 k) 0 0) from by
        rw [← bigSep_sep']
        exact bigSep_mono fun k _ => move_last _ _ _)
    isplitl [HB] <;> iassumption
  · iempintro

/-- The gather source, the tokens and the landing slots received at the barrier are the state before the first gather transfer. -/
theorem gat_intro (c : Dev nD) :
    iprop(Ow c (OX c 3 0) ∗ GatB (F := F) c ∗ (((c : Thread nD τ).loc cc0_scratch3) ↦{fullShare} agv m c) ∗ bigSep Finset.univ (agD (F := F) c)) ⊢ Gat m c 0 := by
  unfold Gat GatB Sd
  rw [from7_zero, upto7_zero, bigSep_empty]
  iintro ⟨HO, HB, Hs, Hd⟩
  ihave Hs := ((Entails.of_eq (agS_eq m c fullShare).symm).trans (agS_split m c).1) $$ Hs
  isplitl [HO]; · iexact HO
  isplitl [HB Hd Hs]
  · iapply (show iprop((bigSep Finset.univ fun k => iprop(dutyTok ER (dmaCell c 2 k) 0 0 ∗ dutyTok ER (dmaCell (sh c k) 3 k) 0 0))
        ∗ (bigSep Finset.univ (agSrc m c)) ∗ bigSep Finset.univ (agD (F := F) c))
      ⊢ bigSep Finset.univ fun k => iprop(agSrc m c k ∗ agD c k ∗ dutyTok ER (dmaCell c 2 k) 0 0 ∗ dutyTok ER (dmaCell (sh c k) 3 k) 0 0) from by
        rw [← bigSep_sep', ← bigSep_sep']
        exact bigSep_mono fun k _ => move_first _ _ _)
    isplitl [HB]; · iexact HB
    isplitl [Hs] <;> iassumption
  · iempintro

/-- After the last reduce transfer the waits on the reduce receives begin. -/
theorem snt_red (c : Dev nD) : iprop(Snt (F := F) c 7 ∗ Wt m c 1 0) ⊢ iprop(Sd c 0 1 (rsS c) (rsD c) 7 ∗ Red m c 0) := by
  unfold Snt Red
  rw [OX_end, add_zero]
  iintro ⟨⟨HO, HS⟩, HW⟩
  isplitl [HS]; · iexact HS
  isplitl [HO] <;> iassumption

/-- After the last gather transfer the waits on the gather receives begin. -/
theorem gat_fin (c : Dev nD) : iprop(Gat m c 7 ∗ Wt m c 3 0) ⊢ iprop(Sd c 2 3 (agSrc m c) (agD c) 7 ∗ Fin' m c 3 0) := by
  unfold Gat Fin'
  rw [OX_end]
  iintro ⟨⟨HO, HS⟩, HW⟩
  isplitl [HS]; · iexact HS
  isplitl [HO] <;> iassumption

/-- The positions of an array's cells before their waits. -/
def Pos (c : Dev nD) (a : Fin 4) : sProp 𝕄 := bigSep Finset.univ fun k => atPos ER (dmaCell c a k) 0 ∅ 0

/-- All transfers of a kind issued, the waits on their sends can begin. -/
theorem sd_wt (c : Dev nD) (a a' : Fin 4) (src dst : Fin 7 → sProp 𝕄) : iprop(Sd c a a' src dst 7 ∗ Pos (F := F) c a) ⊢ Wt m c a 0 := by
  unfold Sd Pos Wt
  rw [from7_seven, upto7_seven, from7_zero, upto7_zero, bigSep_empty, bigSep_empty, bigSep_sep']
  iintro ⟨⟨-, Hc⟩, Hp⟩
  isplitl [Hc Hp]
  · isplitl [Hp] <;> iassumption
  · iempintro

/-- The last waits: those on the reduce sends and on the gather sends done. -/
def Lst (c : Dev nD) (n n' : ℕ) : sProp 𝕄 := iprop(Ow c 0 ∗ Wt m c 0 n ∗ Wt m c 2 n')

/-- After the gather receives the waits on the sends begin. -/
theorem fin_lst (c : Dev nD) : iprop(Fin' m c 3 7 ∗ Wt m c 0 0 ∗ Wt m c 2 0) ⊢ iprop(Wt m c 3 7 ∗ Lst m c 0 0) := by
  unfold Fin' Lst
  iintro ⟨⟨HO, HW⟩, H0, H2⟩
  isplitl [HW]; · iexact HW
  isplitl [HO]; · iexact HO
  isplitl [H0] <;> iassumption

variable {m K} in
/-- One wait on a reduce send. -/
theorem lwait0 (c : Dev nD) (k : Fin 7) (j j' n' : ℕ) (hj : k.val = j) (hj' : k.val + 1 = j')
    {src : Memref sig .tc .vmem S128x1024 .bf16} {hsrc : src.view.WordExact} {hdst : (slot rsSM k).view.WordExact}
    {α : Type} {Q : α → sProp 𝕄} {f : PUnit → Prog (TpuEff nD τ sig (Elt F) Λ₀ .tc) α} :
    env m K ⊢ iprop(Lst m c j n' -∗ (Lst m c j' n' -∗ WP c (f ⟨⟩) Q) -∗ WP c (.op (.waitDma2 (semOf (arr 0) k) src (slot rsSM k) hsrc hdst) f) Q) := by
  unfold Lst
  iintro #HE ⟨HO, H0, H2⟩ Hk
  iapply (fwait c k j j' hj hj' 0 (credit_rsS k)) $$ HE [HO H0]
  · unfold Fin'; isplitl [HO] <;> iassumption
  unfold Fin'
  iintro ⟨HO, H0⟩
  iapply Hk
  isplitl [HO]; · iexact HO
  isplitl [H0] <;> iassumption

variable {m K} in
/-- One wait on a gather send. -/
theorem lwait2 (c : Dev nD) (k : Fin 7) (j j' n : ℕ) (hj : k.val = j) (hj' : k.val + 1 = j')
    {src : Memref sig .tc .vmem S128x1024 .bf16} {hsrc : src.view.WordExact} {hdst : agSM.view.WordExact}
    {α : Type} {Q : α → sProp 𝕄} {f : PUnit → Prog (TpuEff nD τ sig (Elt F) Λ₀ .tc) α} :
    env m K ⊢ iprop(Lst m c n j -∗ (Lst m c n j' -∗ WP c (f ⟨⟩) Q) -∗ WP c (.op (.waitDma2 (semOf (arr 2) k) src agSM hsrc hdst) f) Q) := by
  unfold Lst
  iintro #HE ⟨HO, H0, H2⟩ Hk
  iapply (fwait c k j j' hj hj' 2 credit_agS) $$ HE [HO H2]
  · unfold Fin'; isplitl [HO] <;> iassumption
  unfold Fin'
  iintro ⟨HO, H2⟩
  iapply Hk
  isplitl [HO]; · iexact HO
  isplitl [H0] <;> iassumption

end Cert.KernelIdeal.Mesh

end
-- ==== Proof.IdealBuffers.lean ====
module

public import proofs.«01_k».proof.Proof.IdealSteps

/-!
# The eight-device MLP kernel: buffers cut and joined, cells closed

What a device is given is cut into what its body's steps use, and what they leave is joined again.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A seven-slot buffer and its slots -/

/-- Different slots have no element in common. -/
theorem slotR_disjoint (k k' : Fin 7) (h : k ≠ k') : Disjoint (slotR k).set (slotR k').set :=
  Rect.unit_disjoint (s := S7x128x1024) (0 : Fin 3) (by
    have : k.val ≠ k'.val := fun e => h (Fin.ext e)
    show k.val + 1 ≤ k'.val ∨ k'.val + 1 ≤ k.val
    omega)

/-- The seven slots make up the whole buffer. -/
theorem slotR_cover : (Finset.univ : Finset (Fin 7)).biUnion (fun k => (slotR k).set) = Finset.univ := by
  ext i
  refine ⟨fun _ => Finset.mem_univ _, fun _ => Finset.mem_biUnion.mpr ⟨⟨(i 0).val, (i 0).isLt⟩, Finset.mem_univ _, ?_⟩⟩
  rw [Rect.mem_set_unit]
  intro a
  have := (i a).isLt
  fin_cases a
  · exact ⟨le_rfl, Nat.lt_succ_self _⟩
  · exact ⟨Nat.zero_le _, by simpa using this⟩
  · exact ⟨Nat.zero_le _, by simpa using this⟩

omit [FloatOps F] in
/-- A slice held is its slot held, at some contents; -/
theorem slotAny_of_slice (c : Dev nD) (b : Memref sig .tc .vmem S7x128x1024 .bf16) (k : Fin 7) (Y : S1x128x1024.Idx → Elt F .bf16) :
    (owns (c : Thread nD τ) (b.slice (slotR k) (fun _ => rfl)) fullShare Y : sProp 𝕄) ⊢ slotAny c b k := by
  unfold slotAny
  iintro H
  iexists (sqz Y)
  iapply (slot_owns c b k fullShare (sqz Y)).2
  rw [unsq_sqz]
  ihave H' := (show (owns (c : Thread nD τ) (b.slice (slotR k) (fun _ => rfl)) fullShare Y : sProp 𝕄)
    ⊢ iprop(∃ g, ⌜(b.access (slotR k)).read (Elt F) g = Y⌝ ∗ ((b.access (slotR k)).loc (c : Thread nD τ) ↦[(b.access (slotR k)).set]{fullShare} g)) from .rfl) $$ H
  iexact H'

omit [FloatOps F] in
/-- and a slot held is its elements of the buffer held, at some contents. -/
theorem slotAny_elems (c : Dev nD) (b : Memref sig .tc .vmem S7x128x1024 .bf16) (k : Fin 7) :
    (slotAny c b k : sProp 𝕄) ⊢ iprop(∃ g, b.view.loc (c : Thread nD τ) ↦[(b.view.slice (slotR k)).set]{fullShare} g) := by
  unfold slotAny
  iintro ⟨%X, H⟩
  ihave H := (slot_owns c b k fullShare X).1 $$ H
  icases H with ⟨%g, -, H⟩
  iexists g; iexact H

omit [FloatOps F] in
/-- A seven-slot buffer held whole is its seven slots held. -/
theorem slots_of_whole (c : Dev nD) (b : Memref sig .tc .vmem S7x128x1024 .bf16) (X : S7x128x1024.Idx → Elt F .bf16) :
    (owns (c : Thread nD τ) b fullShare X : sProp 𝕄) ⊢ bigSep Finset.univ (fun k => slotAny c b k) :=
  (owns_rects (c : Thread nD τ) b fullShare slotR (fun _ _ => rfl) slotR_disjoint slotR_cover X).trans
    (bigSep_mono fun k _ => slotAny_of_slice c b k _)

omit [FloatOps F] in
/-- The seven slots held are the buffer held whole, at some contents. -/
theorem whole_of_slots (c : Dev nD) (b : Memref sig .tc .vmem S7x128x1024 .bf16) (hb : b.view.set = Finset.univ)
    (f₀ : Buf (Elt F) (b.view.loc (c : Thread nD τ))) :
    (bigSep Finset.univ (fun k => slotAny c b k) : sProp 𝕄) ⊢ iprop(∃ f, b.view.loc (c : Thread nD τ) ↦{fullShare} f) := by
  refine (bigSep_mono fun k _ => slotAny_elems c b k).trans ?_
  refine Ring.pointsTo_blocks_join_exists (ℓ := b.view.loc (c : Thread nD τ)) (B := Fin 7) (fun k => (b.view.slice (slotR k)).set) ?_ ?_ f₀
  · intro k k' h
    rw [View.set_slice, View.set_slice]; exact (Finset.disjoint_map _).mpr (slotR_disjoint k k' h)
  · rw [← hb]
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (slotR_cover.symm ▸ Finset.mem_univ x)
      exact Finset.mem_biUnion.mpr ⟨t, Finset.mem_univ _, by rw [View.set_slice]; exact Finset.mem_map_of_mem _ hx⟩

/-- A scratch buffer of a device, at any contents. -/
abbrev anyP (c : Dev nD) (b : Ref sig .tc) : sProp 𝕄 := iprop(∃ f : Buf (Elt F) ((c : Thread nD τ).loc b), ((c : Thread nD τ).loc b) ↦{fullShare} f)

omit [FloatOps F] in
/-- The buffer the reduce transfers send from, cut into its slots. -/
theorem split_rsS (c : Dev nD) : (anyP c cc0_scratch1 : sProp 𝕄) ⊢ bigSep Finset.univ (fun k => slotAny (F := F) c rsSM k) := by
  iintro ⟨%f, H⟩
  iapply (slots_of_whole c rsSM f)
  rw [owns_whole]; iexact H
omit [FloatOps F] in
/-- The buffer the reduce transfers land in, cut into its slots. -/
theorem split_rsR (c : Dev nD) : (anyP c cc0_scratch2 : sProp 𝕄) ⊢ bigSep Finset.univ (fun k => slotAny (F := F) c rsRM k) := by
  iintro ⟨%f, H⟩
  iapply (slots_of_whole c rsRM f)
  rw [owns_whole]; iexact H
omit [FloatOps F] in
/-- The buffer the gather transfers land in, cut into its slots. -/
theorem split_agR (c : Dev nD) : (anyP c cc0_scratch4 : sProp 𝕄) ⊢ bigSep Finset.univ (fun k => slotAny (F := F) c agRM k) := by
  iintro ⟨%f, H⟩
  iapply (slots_of_whole c agRM f)
  rw [owns_whole]; iexact H

omit [FloatOps F] in
/-- What the signals hand over: the slots of the two landing buffers, the last first. -/
theorem slots_rev (Φ : Fin 7 → sProp 𝕄) : bigSep Finset.univ Φ = bigSep Finset.univ fun k : Fin 7 => Φ k.rev :=
  bigSep_univ_equiv Fin.revPerm Φ

omit [FloatOps F] in
/-- What a device starts from is the state before its first signal. -/
theorem sig_intro (c : Dev nD) :
    iprop(Ow c (O₀ c) ∗ (bigSep Finset.univ fun k => dutyTok ER (barCell (sh c k)) 0 k.rev) ∗ anyP c cc0_scratch2 ∗ anyP c cc0_scratch4)
      ⊢ (Sig (F := F) c 0 : sProp 𝕄) := by
  unfold Sig
  rw [from7_zero]
  iintro ⟨HO, Ht, H2, H4⟩
  ihave H2 := ((split_rsR c).trans (Entails.of_eq (slots_rev fun k => slotAny (F := F) c rsRM k))) $$ H2
  ihave H4 := ((split_agR c).trans (Entails.of_eq (slots_rev fun k => slotAny (F := F) c agRM k))) $$ H4
  isplitl [HO]; · iexact HO
  rw [bigSep_sep', bigSep_sep']
  isplitl [Ht]; · iexact Ht
  isplitl [H2] <;> iassumption

/-- The payloads of the slots of an array once all are waited on. -/
theorem wt_seven (c : Dev nD) (a : Fin 4) :
    (Wt m c a 7 : sProp 𝕄) ⊢ iprop((bigSep Finset.univ fun k => atPos ER (dmaCell c a k) 1 ∅ 0) ∗ bigSep Finset.univ fun k => pay (F := F) m c (some (a, k)) 0) := by
  unfold Wt
  rw [from7_seven, upto7_seven, bigSep_empty, bigSep_sep']
  iintro ⟨-, H⟩; iexact H

/-- The positions and the credits of an array of semaphores are the state before the first wait on it. -/
theorem wt_zero (c : Dev nD) (a : Fin 4) : iprop(Pos (F := F) c a ∗ bigSep Finset.univ fun k => cred (tallyAt (dmaCell c a k) () N)) ⊢ (Wt m c a 0 : sProp 𝕄) := by
  unfold Wt Pos
  rw [from7_zero, upto7_zero, bigSep_empty, bigSep_sep']
  iintro ⟨H1, H2⟩
  isplitl [H1 H2]
  · isplitl [H1] <;> iassumption
  · iempintro

/-- A slot held at some contents is held at any contents. -/
theorem slot_any (c : Dev nD) (b : Memref sig .tc .vmem S7x128x1024 .bf16) (k : Fin 7) (X : S128x1024.Idx → Elt F .bf16) :
    (owns (c : Thread nD τ) (slot b k) fullShare X : sProp 𝕄) ⊢ slotAny c b k := by
  unfold slotAny; iintro H; iexists X; iexact H

/-- What the waits on the reduce sends return makes up the send buffer again. -/
theorem join_rsS (c : Dev nD) (f₀ : Buf (Elt F) ((c : Thread nD τ).loc cc0_scratch1)) : (bigSep Finset.univ fun k => pay (F := F) m c (some (0, k)) 0 : sProp 𝕄) ⊢ anyP c cc0_scratch1 :=
  whole_of_slots c rsSM (View.set_whole _) f₀
/-- What the waits on the reduce receives return makes up their landing buffer again. -/
theorem join_rsR (c : Dev nD) (f₀ : Buf (Elt F) ((c : Thread nD τ).loc cc0_scratch2)) : (bigSep Finset.univ fun k => pay (F := F) m c (some (1, k)) 0 : sProp 𝕄) ⊢ anyP c cc0_scratch2 :=
  (bigSep_mono fun k _ => slot_any c rsRM k _).trans (whole_of_slots c rsRM (View.set_whole _) f₀)
/-- What the waits on the gather sends return makes up the gather source again. -/
theorem join_agS (c : Dev nD) : (bigSep Finset.univ fun k => pay (F := F) m c (some (2, k)) 0 : sProp 𝕄) ⊢ anyP c cc0_scratch3 := by
  refine (agS_split m c).2.trans ?_
  rw [agS_eq]
  iintro H; iexists (agv m c); iexact H
/-- What the waits on the gather receives return makes up their landing buffer again. -/
theorem join_agR (c : Dev nD) (f₀ : Buf (Elt F) ((c : Thread nD τ).loc cc0_scratch4)) : (bigSep Finset.univ fun k => pay (F := F) m c (some (3, k)) 0 : sProp 𝕄) ⊢ anyP c cc0_scratch4 :=
  (bigSep_mono fun k _ => slot_any c agRM k _).trans (whole_of_slots c agRM (View.set_whole _) f₀)

/-! ## The cells closed -/

variable (K : Dev nD × CI → ℕ)

/-- After its round a barrier semaphore's counter is taken back at zero. -/
theorem close_bar (c : Dev nD) : iprop(env m K ∗ atPos ER (barCell c) 1 ∅ 0) ⊢ (|={Set.univ}=> semVal (barCell c) 0 : sProp 𝕄) := by
  iintro ⟨#HE, H⟩
  iapply (Rounds.cell_close ER (Rd m) (Set.mem_univ (K (c, none))) (fun h => h) (R := 0 + 1) (duties_later m (barCell c)))
  isplitr; · iapply (env_inv m K c none); iexact HE
  iexact H
/-- After its round a transfer semaphore's counter is taken back at zero. -/
theorem close_dma (c : Dev nD) (a : Fin 4) (k : Fin 7) : iprop(env m K ∗ atPos ER (dmaCell c a k) 1 ∅ 0) ⊢ (|={Set.univ}=> semVal (dmaCell c a k) 0 : sProp 𝕄) := by
  iintro ⟨#HE, H⟩
  iapply (Rounds.cell_close ER (Rd m) (Set.mem_univ (K (c, some (a, k)))) (fun h => h) (R := 0 + 1) (duties_later m (dmaCell c a k)))
  isplitr; · iapply (env_inv m K c (some (a, k))); iexact HE
  iexact H

omit [FloatOps F] in
/-- A fact that may be used again, at every member of a family. -/
theorem each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- After their rounds the counters of an array of semaphores are taken back, all at zero. -/
theorem close_arr (c : Dev nD) (a : Fin 4) :
    iprop(env m K ∗ bigSep Finset.univ fun k => atPos ER (dmaCell c a k) 1 ∅ 0) ⊢ (|={Set.univ}=> bigSep Finset.univ fun k => semVal (dmaCell c a k) 0 : sProp 𝕄) :=
  (each (Ψ := fun k => iprop(|={Set.univ}=> semVal (dmaCell c a k) 0)) fun k _ => close_dma m K c a k).trans (bigSep_fupd _ _)

/-! ## The result -/

/-- With all eight chunks of rows stored, the result's buffer holds `outV`. -/
theorem out_all (c : Dev nD) : (Out (m := m) c 7 : sProp 𝕄) ⊢ (((c : Thread nD τ).loc cc0_stg3_0) ↦{fullShare} outV m c) := by
  unfold Out
  iintro ⟨%f, %h, H⟩
  have e : f = outV m c := by
    funext i
    have := h (devOfRow i) (by
      rcases bk_cover c (devOfRow i) with e | ⟨k, e⟩
      · exact .inl e
      · exact .inr ⟨k, k.isLt, e⟩) (inRow i)
    rw [emb_inRow] at this
    exact this
  subst e
  iexact H

end Cert.KernelIdeal.Mesh

end
-- ==== Proof.IdealPartsA.lean ====
module

public import proofs.«01_k».proof.Proof.IdealSteps

/-!
# The eight-device MLP kernel: the parts of its body

Parts 1 to 7: the signals, the barrier wait and the reduce transfers.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

set_option maxHeartbeats 2000000 in
/-- Part 1: five signals. -/
theorem part1  :
    iprop(env m K ∗ Sig c 0)
      ⊢ WP c (k0_part1 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8) (fun r => iprop(⌜r.1 = c ∧ r.2.2.1 = SemArray.scalar (sig.barrier 0 rfl)⌝ ∗ Sig c 5)) := by
  simp only [k0_part1_eq_skeleton]; unfold k0_part1_skel
  simp only [semSignalWord, semWaitWord, Prog.lift, Prog.bind_op, Prog.bind_ret, Prog.pure_eq_ret, wp_deviceId]
  iintro ⟨#HE, HS⟩
  iapply (sgnl c 0 0 1 rfl rfl (Fin.ext (k0_dev1_eq c))) $$ HE HS; iintro HS
  iapply (sgnl c 1 1 2 rfl rfl (Fin.ext (k0_dev2_eq c))) $$ HE HS; iintro HS
  iapply (sgnl c 2 2 3 rfl rfl (Fin.ext (k0_dev3_eq c))) $$ HE HS; iintro HS
  iapply (sgnl c 3 3 4 rfl rfl (Fin.ext (k0_dev4_eq c))) $$ HE HS; iintro HS
  iapply (sgnl c 4 4 5 rfl rfl (Fin.ext (k0_dev5_eq c))) $$ HE HS; iintro HS
  unfold WP; rw [wp_ret]; imodintro
  isplitr; · ipureintro; exact ⟨rfl, rfl⟩
  iexact HS

set_option maxHeartbeats 2000000 in
/-- Part 2: two signals, the barrier wait, the weights loaded, slot 0 filled. -/
theorem part2 (v2 v24 c8 : BitVec 32) :
    iprop(env m K ∗ Sig c 5 ∗ cred (tallyAt (barCell c) () 7) ∗ atPos ER (barCell c) 0 ∅ 0 ∗ SndB c ∗ xP m c ∗ w1P m c ∗ w2P m c)
      ⊢ WP c (k0_part2 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (SemArray.scalar (sig.barrier 0 rfl)) v24 c8) (fun r => iprop(⌜r.1 = k0_pay1 (w1V m c) ∧ r.2.1 = k0_pay2 (w2V m c)⌝ ∗ atPos ER (barCell c) 1 ∅ 0 ∗ bigSep Finset.univ (agD c) ∗ Rdy m c 0 ∗ xP m c ∗ w1P m c ∗ w2P m c)) := by
  simp only [k0_part2_eq_skeleton]; unfold k0_part2_skel
  simp only [semSignalWord, semWaitWord, Prog.lift, Prog.bind_op, Prog.bind_ret, Prog.pure_eq_ret, wp_deviceId]
  iintro ⟨#HE, HS, Hc, Ha, HB, Hx, Hw1, Hw2⟩
  iapply (sgnl c 5 5 6 rfl rfl (Fin.ext (k0_dev6_eq c))) $$ HE HS; iintro HS
  iapply (sgnl c 6 6 7 rfl rfl (Fin.ext (k0_dev7_eq c))) $$ HE HS; iintro HS
  iapply (bar_wait c) $$ [HS Hc Ha]
  · isplitr; · iexact HE
    isplitl [HS]; · iexact HS
    isplitl [Hc] <;> iassumption
  iintro ⟨HO, Ha, Hr, Hg⟩
  ihave HS := (snt_intro c) $$ [HO HB Hr]
  · isplitl [HO]; · iexact HO
    isplitl [HB] <;> iassumption
  iapply (w1_load c (w1V m c)) $$ Hw1; iintro Hw1
  iapply (w2_load c (w2V m c)) $$ Hw2; iintro Hw2
  iapply (x_load c (sh c 0) (off1_sh c 0) (xV m c)) $$ Hx; iintro Hx
  iapply (peek c 0 0 rfl) $$ HS; iintro HS
  iapply (fill c 0 0 rfl (rfl)) $$ HS; iintro HS
  unfold WP; rw [wp_ret]; imodintro
  isplitr; · ipureintro; exact ⟨rfl, rfl⟩
  isplitl [Ha]; · iexact Ha
  isplitl [Hg]; · iexact Hg
  isplitl [HS]; · iexact HS
  isplitl [Hx]; · iexact Hx
  isplitl [Hw1]; · iexact Hw1
  iexact Hw2

set_option maxHeartbeats 2000000 in
/-- Part 3: slot 0 sent, slot 1 filled. -/
theorem part3 (v2 w w' : BitVec 32) :
    iprop(env m K ∗ Rdy m c 0 ∗ xP m c)
      ⊢ WP c (k0_part3 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (k0_pay1 (w1V m c)) (k0_pay2 (w2V m c)) w) (fun r => iprop(Rdy m c 1 ∗ xP m c)) := by
  simp only [k0_part3_eq_skeleton]; unfold k0_part3_skel
  simp only [semSignalWord, semWaitWord, Prog.lift, Prog.bind_op, Prog.bind_ret, Prog.pure_eq_ret, wp_deviceId]
  iintro ⟨#HE, HS, Hx⟩
  iapply (send c 0 1 rfl (Fin.ext (k0_dev8_eq c))) $$ HE HS; iintro HS
  iapply (x_load c (sh c 1) (off1_sh c 1) (xV m c)) $$ Hx; iintro Hx
  iapply (peek c 1 1 rfl) $$ HS; iintro HS
  iapply (fill c 1 1 rfl (pay4_eq _ _ _)) $$ HS; iintro HS
  unfold WP; rw [wp_ret]; imodintro
  isplitl [HS]; · iexact HS
  iexact Hx

set_option maxHeartbeats 2000000 in
/-- Part 4: slot 1 sent, slot 2 filled and sent. -/
theorem part4 (v2 w w' : BitVec 32) :
    iprop(env m K ∗ Rdy m c 1 ∗ xP m c)
      ⊢ WP c (k0_part4 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (k0_pay1 (w1V m c)) (k0_pay2 (w2V m c))) (fun r => iprop(Snt c 3 ∗ xP m c)) := by
  simp only [k0_part4_eq_skeleton]; unfold k0_part4_skel
  simp only [semSignalWord, semWaitWord, Prog.lift, Prog.bind_op, Prog.bind_ret, Prog.pure_eq_ret, wp_deviceId]
  iintro ⟨#HE, HS, Hx⟩
  iapply (send c 1 2 rfl (Fin.ext (k0_dev9_eq c))) $$ HE HS; iintro HS
  iapply (x_load c (sh c 2) (off1_sh c 2) (xV m c)) $$ Hx; iintro Hx
  iapply (peek c 2 2 rfl) $$ HS; iintro HS
  iapply (fill c 2 2 rfl (pay5_eq _ _ _)) $$ HS; iintro HS
  iapply (send c 2 3 rfl (Fin.ext (k0_dev10_eq c))) $$ HE HS; iintro HS
  unfold WP; rw [wp_ret]; imodintro
  isplitl [HS]; · iexact HS
  iexact Hx

set_option maxHeartbeats 2000000 in
/-- Part 5: slot 3 filled and sent, the product of slot 4 begun. -/
theorem part5 (v2 w w' : BitVec 32) :
    iprop(env m K ∗ Snt c 3 ∗ xP m c)
      ⊢ WP c (k0_part5 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (k0_pay1 (w1V m c)) (k0_pay2 (w2V m c)) w w') (fun r => iprop(⌜r.2.2.1 = k0_pay7 (k0_pay1 (w1V m c)) (xch m c (sh c 4)) ∧ r.2.2.2 = k0_pay8⌝ ∗ Snt c 4 ∗ xP m c)) := by
  simp only [k0_part5_eq_skeleton]; unfold k0_part5_skel
  simp only [semSignalWord, semWaitWord, Prog.lift, Prog.bind_op, Prog.bind_ret, Prog.pure_eq_ret, wp_deviceId]
  iintro ⟨#HE, HS, Hx⟩
  iapply (x_load c (sh c 3) (off1_sh c 3) (xV m c)) $$ Hx; iintro Hx
  iapply (peek c 3 3 rfl) $$ HS; iintro HS
  iapply (fill c 3 3 rfl (pay6_eq _ _ _)) $$ HS; iintro HS
  iapply (send c 3 4 rfl (Fin.ext (k0_dev11_eq c))) $$ HE HS; iintro HS
  iapply (x_load c (sh c 4) (off1_sh c 4) (xV m c)) $$ Hx; iintro Hx
  unfold WP; rw [wp_ret]; imodintro
  isplitr; · ipureintro; exact ⟨rfl, rfl⟩
  isplitl [HS]; · iexact HS
  iexact Hx

set_option maxHeartbeats 2000000 in
/-- Part 6: slot 4 filled and sent, the share of slot 5 computed. -/
theorem part6 (v2 w w' : BitVec 32) :
    iprop(env m K ∗ Snt c 4 ∗ xP m c)
      ⊢ WP c (k0_part6 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (k0_pay1 (w1V m c)) (k0_pay2 (w2V m c)) w (k0_pay7 (k0_pay1 (w1V m c)) (xch m c (sh c 4))) k0_pay8) (fun r => iprop(⌜r.2 = k0_pay3 (w1V m c) (w2V m c) (xch m c (sh c 5))⌝ ∗ Snt c 5 ∗ xP m c)) := by
  simp only [k0_part6_eq_skeleton]; unfold k0_part6_skel
  simp only [semSignalWord, semWaitWord, Prog.lift, Prog.bind_op, Prog.bind_ret, Prog.pure_eq_ret, wp_deviceId]
  iintro ⟨#HE, HS, Hx⟩
  iapply (peek c 4 4 rfl) $$ HS; iintro HS
  iapply (fill c 4 4 rfl (pay9_eq _ _ _)) $$ HS; iintro HS
  iapply (send c 4 5 rfl (Fin.ext (k0_dev12_eq c))) $$ HE HS; iintro HS
  iapply (x_load c (sh c 5) (off1_sh c 5) (xV m c)) $$ Hx; iintro Hx
  iapply (peek c 5 5 rfl) $$ HS; iintro HS
  unfold WP; rw [wp_ret]; imodintro
  isplitr; · ipureintro; exact pay10_eq _ _ _
  isplitl [HS]; · iexact HS
  iexact Hx

set_option maxHeartbeats 2000000 in
/-- Part 7: slot 5 filled and sent, slot 6 filled. -/
theorem part7 (v2 w w' : BitVec 32) :
    iprop(env m K ∗ Snt c 5 ∗ xP m c)
      ⊢ WP c (k0_part7 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (k0_pay1 (w1V m c)) (k0_pay2 (w2V m c)) w (k0_pay3 (w1V m c) (w2V m c) (xch m c (sh c 5)))) (fun r => iprop(Rdy m c 6 ∗ xP m c)) := by
  simp only [k0_part7_eq_skeleton]; unfold k0_part7_skel
  simp only [semSignalWord, semWaitWord, Prog.lift, Prog.bind_op, Prog.bind_ret, Prog.pure_eq_ret, wp_deviceId]
  iintro ⟨#HE, HS, Hx⟩
  iapply (fill c 5 5 rfl (rfl)) $$ HS; iintro HS
  iapply (send c 5 6 rfl (Fin.ext (k0_dev13_eq c))) $$ HE HS; iintro HS
  iapply (x_load c (sh c 6) (off1_sh c 6) (xV m c)) $$ Hx; iintro Hx
  iapply (peek c 6 6 rfl) $$ HS; iintro HS
  iapply (fill c 6 6 rfl (pay11_eq _ _ _)) $$ HS; iintro HS
  unfold WP; rw [wp_ret]; imodintro
  isplitl [HS]; · iexact HS
  iexact Hx

end Cert.KernelIdeal.Mesh

end
-- ==== Proof.IdealPartsB.lean ====
module

public import proofs.«01_k».proof.Proof.IdealSteps

/-!
# The eight-device MLP kernel: the parts of its body

Parts 8 to 14: the reduce receives and the first gather transfers.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

set_option maxHeartbeats 2000000 in
/-- Part 8: slot 6 sent, this device's own share computed, the first receive. -/
theorem part8 (v2 w : BitVec 32) (X : Vec F S128x1024 .f32) :
    iprop(env m K ∗ Rdy m c 6 ∗ xP m c ∗ ownP c X ∗ Wt m c 1 0)
      ⊢ WP c (k0_part8 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 (k0_pay1 (w1V m c)) (k0_pay2 (w2V m c)) w) (fun r => iprop(⌜r = k0_pay13 (acc m c 0) (unsq (part m (bk c 0) c))⌝ ∗ Sd c 0 1 (rsS c) (rsD c) 7 ∗ Red m c 1 ∗ xP m c ∗ ownP c (acc m c 0))) := by
  simp only [k0_part8_eq_skeleton]; unfold k0_part8_skel
  simp only [semSignalWord, semWaitWord, Prog.lift, Prog.bind_op, Prog.bind_ret, Prog.pure_eq_ret, wp_deviceId]
  iintro ⟨#HE, HS, Hx, Ho, HW⟩
  iapply (send c 6 7 rfl (Fin.ext (k0_dev14_eq c))) $$ HE HS; iintro HS
  iapply (x_load c c (off2_self c) (xV m c)) $$ Hx; iintro Hx
  iapply (own_load c X) $$ Ho; iintro Ho
  iapply (own_store c X (acc m c 0)) $$ Ho; iintro Ho
  ihave H := (snt_red m c) $$ [HS HW]
  · isplitl [HS] <;> iassumption
  icases H with ⟨HS, HR⟩
  iapply (rwait c 0 0 1 rfl rfl (credit_rsR 0)) $$ HE HR; iintro HR
  iapply (own_load c (acc m c 0)) $$ Ho; iintro Ho
  iapply (rload c 0 1 (by decide)) $$ HR; iintro HR
  unfold WP; rw [wp_ret]; imodintro
  isplitr; · ipureintro; exact rfl
  isplitl [HS]; · iexact HS
  isplitl [HR]; · iexact HR
  isplitl [Hx]; · iexact Hx
  iexact Ho

set_option maxHeartbeats 2000000 in
/-- Part 9: the first two pieces added. -/
theorem part9 (w w' : BitVec 32) :
    iprop(env m K ∗ Red m c 1 ∗ ownP c (acc m c 0))
      ⊢ WP c (k0_part9 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 w w' (k0_pay13 (acc m c 0) (unsq (part m (bk c 0) c)))) (fun r => iprop(Red m c 3 ∗ ownP c (acc m c 2))) := by
  simp only [k0_part9_eq_skeleton]; unfold k0_part9_skel
  simp only [semSignalWord, semWaitWord, Prog.lift, Prog.bind_op, Prog.bind_ret, Prog.pure_eq_ret, wp_deviceId]
  iintro ⟨#HE, HR, Ho⟩
  iapply (own_load c (acc m c 0)) $$ Ho; iintro Ho
  iapply (astore c 0 0 1 rfl rfl (acc m c 0) (pay14_eq _ _)) $$ Ho; iintro Ho
  iapply (rwait c 1 1 2 rfl rfl (credit_rsR 1)) $$ HE HR; iintro HR
  iapply (own_load c (acc m c 1)) $$ Ho; iintro Ho
  iapply (rload c 1 2 (by decide)) $$ HR; iintro HR
  iapply (own_load c (acc m c 1)) $$ Ho; iintro Ho
  iapply (astore c 1 1 2 rfl rfl (acc m c 1) (rfl)) $$ Ho; iintro Ho
  iapply (rwait c 2 2 3 rfl rfl (credit_rsR 2)) $$ HE HR; iintro HR
  unfold WP; rw [wp_ret]; imodintro
  isplitl [HR]; · iexact HR
  iexact Ho

set_option maxHeartbeats 2000000 in
/-- Part 10: two more pieces added. -/
theorem part10 (w w' : BitVec 32) :
    iprop(env m K ∗ Red m c 3 ∗ ownP c (acc m c 2))
      ⊢ WP c (k0_part10 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 w w') (fun r => iprop(Red m c 4 ∗ ownP c (acc m c 4))) := by
  simp only [k0_part10_eq_skeleton]; unfold k0_part10_skel
  simp only [semSignalWord, semWaitWord, Prog.lift, Prog.bind_op, Prog.bind_ret, Prog.pure_eq_ret, wp_deviceId]
  iintro ⟨#HE, HR, Ho⟩
  iapply (own_load c (acc m c 2)) $$ Ho; iintro Ho
  iapply (rload c 2 3 (by decide)) $$ HR; iintro HR
  iapply (own_load c (acc m c 2)) $$ Ho; iintro Ho
  iapply (astore c 2 2 3 rfl rfl (acc m c 2) (pay16_eq _ _)) $$ Ho; iintro Ho
  iapply (rwait c 3 3 4 rfl rfl (credit_rsR 3)) $$ HE HR; iintro HR
  iapply (own_load c (acc m c 3)) $$ Ho; iintro Ho
  iapply (rload c 3 4 (by decide)) $$ HR; iintro HR
  iapply (own_load c (acc m c 3)) $$ Ho; iintro Ho
  iapply (astore c 3 3 4 rfl rfl (acc m c 3) (pay17_eq _ _)) $$ Ho; iintro Ho
  unfold WP; rw [wp_ret]; imodintro
  isplitl [HR]; · iexact HR
  iexact Ho

set_option maxHeartbeats 2000000 in
/-- Part 11: the fifth piece added, the sixth sum computed. -/
theorem part11 (w : BitVec 32) :
    iprop(env m K ∗ Red m c 4 ∗ ownP c (acc m c 4))
      ⊢ WP c (k0_part11 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 w) (fun r => iprop(⌜r = k0_pay15 (acc m c 5) (unsq (part m (bk c 5) c))⌝ ∗ Red m c 6 ∗ ownP c (acc m c 5))) := by
  simp only [k0_part11_eq_skeleton]; unfold k0_part11_skel
  simp only [semSignalWord, semWaitWord, Prog.lift, Prog.bind_op, Prog.bind_ret, Prog.pure_eq_ret, wp_deviceId]
  iintro ⟨#HE, HR, Ho⟩
  iapply (rwait c 4 4 5 rfl rfl (credit_rsR 4)) $$ HE HR; iintro HR
  iapply (own_load c (acc m c 4)) $$ Ho; iintro Ho
  iapply (rload c 4 5 (by decide)) $$ HR; iintro HR
  iapply (own_load c (acc m c 4)) $$ Ho; iintro Ho
  iapply (astore c 4 4 5 rfl rfl (acc m c 4) (pay18_eq _ _)) $$ Ho; iintro Ho
  iapply (rwait c 5 5 6 rfl rfl (credit_rsR 5)) $$ HE HR; iintro HR
  iapply (own_load c (acc m c 5)) $$ Ho; iintro Ho
  iapply (rload c 5 6 (by decide)) $$ HR; iintro HR
  iapply (own_load c (acc m c 5)) $$ Ho; iintro Ho
  unfold WP; rw [wp_ret]; imodintro
  isplitr; · ipureintro; exact pay19_eq _ _
  isplitl [HR]; · iexact HR
  iexact Ho

set_option maxHeartbeats 2000000 in
/-- Part 12: the last pieces added, the total stored as this device's rows and as the gather source. -/
theorem part12 (v2 w : BitVec 32) (f : (cc0_stg3_0 : Ref sig .tc).ty.Contents (Elt F)) (g : Vec F S128x1024 .bf16) :
    iprop(env m K ∗ Red m c 6 ∗ ownP c (acc m c 5) ∗ (((c : Thread nD τ).loc cc0_stg3_0) ↦{fullShare} f) ∗ (((c : Thread nD τ).loc cc0_scratch3) ↦{fullShare} g))
      ⊢ WP c (k0_part12 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 w (k0_pay15 (acc m c 5) (unsq (part m (bk c 5) c)))) (fun r => iprop(Red m c 7 ∗ ownP c (acc m c 7) ∗ Out (m := m) c 0 ∗ (((c : Thread nD τ).loc cc0_scratch3) ↦{fullShare} agv m c))) := by
  simp only [k0_part12_eq_skeleton]; unfold k0_part12_skel
  simp only [semSignalWord, semWaitWord, Prog.lift, Prog.bind_op, Prog.bind_ret, Prog.pure_eq_ret, wp_deviceId]
  iintro ⟨#HE, HR, Ho, HO, Hg⟩
  iapply (astore c 5 5 6 rfl rfl (acc m c 5) (rfl)) $$ Ho; iintro Ho
  iapply (rwait c 6 6 7 rfl rfl (credit_rsR 6)) $$ HE HR; iintro HR
  iapply (own_load c (acc m c 6)) $$ Ho; iintro Ho
  iapply (rload c 6 7 (by decide)) $$ HR; iintro HR
  iapply (own_load c (acc m c 6)) $$ Ho; iintro Ho
  iapply (astore c 6 6 7 rfl rfl (acc m c 6) (pay20_eq _ _)) $$ Ho; iintro Ho
  iapply (own_load c (acc m c 7)) $$ Ho; iintro Ho
  iapply (ofirst_peek c f) $$ HO; iintro HO
  iapply (ofirst_store c f (off2_self c) rfl) $$ HO; iintro HO
  iapply (own_load c (acc m c 7)) $$ Ho; iintro Ho
  iapply (ags_peek c g) $$ Hg; iintro Hg
  iapply (ags_store c g (agv m c)) $$ Hg; iintro Hg
  unfold WP; rw [wp_ret]; imodintro
  isplitl [HR]; · iexact HR
  isplitl [Ho]; · iexact Ho
  isplitl [HO]; · iexact HO
  iexact Hg

set_option maxHeartbeats 2000000 in
/-- Part 13: two gather transfers. -/
theorem part13 (v2 w w' : BitVec 32) :
    iprop(env m K ∗ Gat m c 0)
      ⊢ WP c (k0_part13 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 w w') (fun r => iprop(Gat m c 2)) := by
  simp only [k0_part13_eq_skeleton]; unfold k0_part13_skel
  simp only [semSignalWord, semWaitWord, Prog.lift, Prog.bind_op, Prog.bind_ret, Prog.pure_eq_ret, wp_deviceId]
  iintro ⟨#HE, HG⟩
  iapply (gsend c 0 0 1 rfl rfl (Fin.ext (k0_dev15_eq c))) $$ HE HG; iintro HG
  iapply (gsend c 1 1 2 rfl rfl (Fin.ext (k0_dev16_eq c))) $$ HE HG; iintro HG
  unfold WP; rw [wp_ret]; imodintro
  iexact HG

set_option maxHeartbeats 2000000 in
/-- Part 14: three gather transfers. -/
theorem part14 (v2 w w' : BitVec 32) :
    iprop(env m K ∗ Gat m c 2)
      ⊢ WP c (k0_part14 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2) (fun r => iprop(Gat m c 5)) := by
  simp only [k0_part14_eq_skeleton]; unfold k0_part14_skel
  simp only [semSignalWord, semWaitWord, Prog.lift, Prog.bind_op, Prog.bind_ret, Prog.pure_eq_ret, wp_deviceId]
  iintro ⟨#HE, HG⟩
  iapply (gsend c 2 2 3 rfl rfl (Fin.ext (k0_dev17_eq c))) $$ HE HG; iintro HG
  iapply (gsend c 3 3 4 rfl rfl (Fin.ext (k0_dev18_eq c))) $$ HE HG; iintro HG
  iapply (gsend c 4 4 5 rfl rfl (Fin.ext (k0_dev19_eq c))) $$ HE HG; iintro HG
  unfold WP; rw [wp_ret]; imodintro
  iexact HG

end Cert.KernelIdeal.Mesh

end
-- ==== Proof.IdealPartsC.lean ====
module

public import proofs.«01_k».proof.Proof.IdealSteps

/-!
# The eight-device MLP kernel: the parts of its body

Parts 15 to 21: the gather receives and the send waits.
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

set_option maxHeartbeats 2000000 in
/-- Part 15: the last two gather transfers, the first gather receive. -/
theorem part15 (v2 w : BitVec 32) :
    iprop(env m K ∗ Gat m c 5 ∗ Wt m c 3 0)
      ⊢ WP c (k0_part15 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 w) (fun r => iprop(⌜r.2 = k0_pay23 (unsq (agv m (bk c 0)))⌝ ∗ Sd c 2 3 (agSrc m c) (agD c) 7 ∗ Fin' m c 3 1)) := by
  simp only [k0_part15_eq_skeleton]; unfold k0_part15_skel
  simp only [semSignalWord, semWaitWord, Prog.lift, Prog.bind_op, Prog.bind_ret, Prog.pure_eq_ret, wp_deviceId]
  iintro ⟨#HE, HG, HW⟩
  iapply (gsend c 5 5 6 rfl rfl (Fin.ext (k0_dev20_eq c))) $$ HE HG; iintro HG
  iapply (gsend c 6 6 7 rfl rfl (Fin.ext (k0_dev21_eq c))) $$ HE HG; iintro HG
  ihave H := (gat_fin m c) $$ [HG HW]
  · isplitl [HG] <;> iassumption
  icases H with ⟨HG, HF⟩
  iapply (fwait c 0 0 1 rfl rfl 3 (credit_agR 0)) $$ HE HF; iintro HF
  iapply (gload c 0 1 (by decide)) $$ HF; iintro HF
  unfold WP; rw [wp_ret]; imodintro
  isplitr; · ipureintro; exact pay22_eq _
  isplitl [HG]; · iexact HG
  iexact HF

set_option maxHeartbeats 2000000 in
/-- Part 16: the first two chunks gathered stored. -/
theorem part16 (v2 w w' : BitVec 32) :
    iprop(env m K ∗ Fin' m c 3 1 ∗ Out (m := m) c 0)
      ⊢ WP c (k0_part16 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 w w' (k0_pay23 (unsq (agv m (bk c 0))))) (fun r => iprop(Fin' m c 3 3 ∗ Out (m := m) c 2)) := by
  simp only [k0_part16_eq_skeleton]; unfold k0_part16_skel
  simp only [semSignalWord, semWaitWord, Prog.lift, Prog.bind_op, Prog.bind_ret, Prog.pure_eq_ret, wp_deviceId]
  iintro ⟨#HE, HF, HO⟩
  iapply (out_peek c 0) $$ HO; iintro HO
  iapply (ostore c 0 0 1 rfl rfl (off3_bk c 0) (rfl)) $$ HO; iintro HO
  iapply (fwait c 1 1 2 rfl rfl 3 (credit_agR 1)) $$ HE HF; iintro HF
  iapply (gload c 1 2 (by decide)) $$ HF; iintro HF
  iapply (out_peek c 1) $$ HO; iintro HO
  iapply (ostore c 1 1 2 rfl rfl (off3_bk c 1) (rfl)) $$ HO; iintro HO
  iapply (fwait c 2 2 3 rfl rfl 3 (credit_agR 2)) $$ HE HF; iintro HF
  unfold WP; rw [wp_ret]; imodintro
  isplitl [HF]; · iexact HF
  iexact HO

set_option maxHeartbeats 2000000 in
/-- Part 17: two more chunks stored. -/
theorem part17 (v2 w w' w'' : BitVec 32) :
    iprop(env m K ∗ Fin' m c 3 3 ∗ Out (m := m) c 2)
      ⊢ WP c (k0_part17 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 w w' w'') (fun r => iprop(Fin' m c 3 5 ∗ Out (m := m) c 4)) := by
  simp only [k0_part17_eq_skeleton]; unfold k0_part17_skel
  simp only [semSignalWord, semWaitWord, Prog.lift, Prog.bind_op, Prog.bind_ret, Prog.pure_eq_ret, wp_deviceId]
  iintro ⟨#HE, HF, HO⟩
  iapply (gload c 2 3 (by decide)) $$ HF; iintro HF
  iapply (out_peek c 2) $$ HO; iintro HO
  iapply (ostore c 2 2 3 rfl rfl (off3_bk c 2) (pay24_eq _)) $$ HO; iintro HO
  iapply (fwait c 3 3 4 rfl rfl 3 (credit_agR 3)) $$ HE HF; iintro HF
  iapply (gload c 3 4 (by decide)) $$ HF; iintro HF
  iapply (out_peek c 3) $$ HO; iintro HO
  iapply (ostore c 3 3 4 rfl rfl (off3_bk c 3) (pay25_eq _)) $$ HO; iintro HO
  iapply (fwait c 4 4 5 rfl rfl 3 (credit_agR 4)) $$ HE HF; iintro HF
  unfold WP; rw [wp_ret]; imodintro
  isplitl [HF]; · iexact HF
  iexact HO

set_option maxHeartbeats 2000000 in
/-- Part 18: two more chunks stored. -/
theorem part18 (v2 w w' w'' : BitVec 32) :
    iprop(env m K ∗ Fin' m c 3 5 ∗ Out (m := m) c 4)
      ⊢ WP c (k0_part18 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2 w w' w'') (fun r => iprop(Fin' m c 3 6 ∗ Out (m := m) c 6)) := by
  simp only [k0_part18_eq_skeleton]; unfold k0_part18_skel
  simp only [semSignalWord, semWaitWord, Prog.lift, Prog.bind_op, Prog.bind_ret, Prog.pure_eq_ret, wp_deviceId]
  iintro ⟨#HE, HF, HO⟩
  iapply (gload c 4 5 (by decide)) $$ HF; iintro HF
  iapply (out_peek c 4) $$ HO; iintro HO
  iapply (ostore c 4 4 5 rfl rfl (off3_bk c 4) (pay26_eq _)) $$ HO; iintro HO
  iapply (fwait c 5 5 6 rfl rfl 3 (credit_agR 5)) $$ HE HF; iintro HF
  iapply (gload c 5 6 (by decide)) $$ HF; iintro HF
  iapply (out_peek c 5) $$ HO; iintro HO
  iapply (ostore c 5 5 6 rfl rfl (off3_bk c 5) (pay27_eq _)) $$ HO; iintro HO
  unfold WP; rw [wp_ret]; imodintro
  isplitl [HF]; · iexact HF
  iexact HO

set_option maxHeartbeats 2000000 in
/-- Part 19: the last chunk stored; the first send waits. -/
theorem part19 (v2 : BitVec 32) :
    iprop(env m K ∗ Fin' m c 3 6 ∗ Out (m := m) c 6 ∗ Wt m c 0 0 ∗ Wt m c 2 0)
      ⊢ WP c (k0_part19 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8 c v2) (fun r => iprop(Wt m c 3 7 ∗ Out (m := m) c 7 ∗ Lst m c 1 1)) := by
  simp only [k0_part19_eq_skeleton]; unfold k0_part19_skel
  simp only [semSignalWord, semWaitWord, Prog.lift, Prog.bind_op, Prog.bind_ret, Prog.pure_eq_ret, wp_deviceId]
  iintro ⟨#HE, HF, HO, H0, H2⟩
  iapply (fwait c 6 6 7 rfl rfl 3 (credit_agR 6)) $$ HE HF; iintro HF
  iapply (gload c 6 7 (by decide)) $$ HF; iintro HF
  iapply (out_peek c 6) $$ HO; iintro HO
  iapply (ostore c 6 6 7 rfl rfl (off3_bk c 6) (pay28_eq _)) $$ HO; iintro HO
  ihave H := (fin_lst m c) $$ [HF H0 H2]
  · isplitl [HF]; · iexact HF
    isplitl [H0] <;> iassumption
  icases H with ⟨HF, HL⟩
  iapply (lwait0 c 0 0 1 0 rfl rfl) $$ HE HL; iintro HL
  iapply (lwait2 c 0 0 1 1 rfl rfl) $$ HE HL; iintro HL
  unfold WP; rw [wp_ret]; imodintro
  isplitl [HF]; · iexact HF
  isplitl [HO]; · iexact HO
  iexact HL

set_option maxHeartbeats 2000000 in
/-- Part 20: four send waits. -/
theorem part20  :
    iprop(env m K ∗ Lst m c 1 1)
      ⊢ WP c (k0_part20 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8) (fun r => iprop(Lst m c 3 3)) := by
  simp only [k0_part20_eq_skeleton]; unfold k0_part20_skel
  simp only [semSignalWord, semWaitWord, Prog.lift, Prog.bind_op, Prog.bind_ret, Prog.pure_eq_ret, wp_deviceId]
  iintro ⟨#HE, HL⟩
  iapply (lwait0 c 1 1 2 1 rfl rfl) $$ HE HL; iintro HL
  iapply (lwait2 c 1 1 2 2 rfl rfl) $$ HE HL; iintro HL
  iapply (lwait0 c 2 2 3 2 rfl rfl) $$ HE HL; iintro HL
  iapply (lwait2 c 2 2 3 3 rfl rfl) $$ HE HL; iintro HL
  unfold WP; rw [wp_ret]; imodintro
  iexact HL

set_option maxHeartbeats 2000000 in
/-- Part 21: five send waits. -/
theorem part21  :
    iprop(env m K ∗ Lst m c 3 3)
      ⊢ WP c (k0_part21 xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8) (fun r => iprop(Lst m c 6 5)) := by
  simp only [k0_part21_eq_skeleton]; unfold k0_part21_skel
  simp only [semSignalWord, semWaitWord, Prog.lift, Prog.bind_op, Prog.bind_ret, Prog.pure_eq_ret, wp_deviceId]
  iintro ⟨#HE, HL⟩
  iapply (lwait0 c 3 3 4 3 rfl rfl) $$ HE HL; iintro HL
  iapply (lwait2 c 3 3 4 4 rfl rfl) $$ HE HL; iintro HL
  iapply (lwait0 c 4 4 5 4 rfl rfl) $$ HE HL; iintro HL
  iapply (lwait2 c 4 4 5 5 rfl rfl) $$ HE HL; iintro HL
  iapply (lwait0 c 5 5 6 5 rfl rfl) $$ HE HL; iintro HL
  unfold WP; rw [wp_ret]; imodintro
  iexact HL

end Cert.KernelIdeal.Mesh

end
-- ==== Proof.IdealRun.lean ====
module

public import proofs.«01_k».proof.Proof.IdealPartsA
public import proofs.«01_k».proof.Proof.IdealPartsB
public import proofs.«01_k».proof.Proof.IdealPartsC

/-!
# The eight-device MLP kernel: the body, its parts run in order
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

set_option maxHeartbeats 4000000 in
set_option maxRecDepth 65536 in
/-- The body of device `c`, from what it is given to what it leaves. -/
theorem run_body (X : Vec F S128x1024 .f32) (f : (cc0_stg3_0 : Ref sig .tc).ty.Contents (Elt F)) (g : Vec F S128x1024 .bf16) :
    iprop(env m K ∗ Sig c 0 ∗ cred (tallyAt (barCell c) () 7) ∗ atPos ER (barCell c) 0 ∅ 0 ∗ SndB c ∗ GatB c ∗ Pos c 0 ∗ Pos c 2
        ∗ Wt m c 1 0 ∗ Wt m c 3 0 ∗ xP m c ∗ w1P m c ∗ w2P m c ∗ ownP c X
        ∗ (((c : Thread nD τ).loc cc0_stg3_0) ↦{fullShare} f) ∗ (((c : Thread nD τ).loc cc0_scratch3) ↦{fullShare} g))
      ⊢ WP c (cc0_body xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8)
          (fun _ => iprop(atPos ER (barCell c) 1 ∅ 0 ∗ Lst m c 7 7 ∗ Wt m c 1 7 ∗ Wt m c 3 7 ∗ xP m c ∗ w1P m c ∗ w2P m c
            ∗ ownP c (acc m c 7) ∗ Out (m := m) c 7)) := by
  rw [cc0_body_eq_skeleton]; unfold cc0_body_skel
  iintro ⟨#HE, HS, Hcb, Hab, HB, HGB, HP0, HP2, HW1, HW3, Hx, H1, H2, Ho, Hout, Hg⟩
  iapply (seq (part1 m K c)) $$ [HS]
  · isplitr; · iexact HE
    iexact HS
  iintro %r H
  obtain ⟨d0, v2, v3, v24, c8⟩ := r
  icases H with ⟨%hp, HS⟩
  obtain ⟨hp1, hp2⟩ := hp; dsimp only at hp1 hp2; subst d0 v3
  try dsimp only
  iapply (seq (part2 m K c v2 v24 c8)) $$ [HS Hcb Hab HB Hx H1 H2]
  · isplitr; · iexact HE
    isplitl [HS]; · iexact HS
    isplitl [Hcb]; · iexact Hcb
    isplitl [Hab]; · iexact Hab
    isplitl [HB]; · iexact HB
    isplitl [Hx]; · iexact Hx
    isplitl [H1]; · iexact H1
    iexact H2
  iintro %r H
  obtain ⟨v33, v35, v38⟩ := r
  icases H with ⟨%hp, Hab, Hd, HR, Hx, H1, H2⟩
  obtain ⟨hp1, hp2⟩ := hp; dsimp only at hp1 hp2; subst v33 v35
  try dsimp only
  iapply (seq (part3 m K c v2 v38 v38)) $$ [HR Hx]
  · isplitr; · iexact HE
    isplitl [HR]; · iexact HR
    iexact Hx
  iintro %v64 H
  icases H with ⟨HR, Hx⟩
  try dsimp only
  iapply (seq (part4 m K c v2 0#32 0#32)) $$ [HR Hx]
  · isplitr; · iexact HE
    isplitl [HR]; · iexact HR
    iexact Hx
  iintro %r H
  obtain ⟨v90, v115, c8'⟩ := r
  icases H with ⟨HS, Hx⟩
  try dsimp only
  iapply (seq (part5 m K c v2 v115 c8')) $$ [HS Hx]
  · isplitr; · iexact HE
    isplitl [HS]; · iexact HS
    iexact Hx
  iintro %r H
  obtain ⟨v116, v142, v147, v148⟩ := r
  icases H with ⟨%hp, HS, Hx⟩
  obtain ⟨hp1, hp2⟩ := hp; dsimp only at hp1 hp2; subst v147 v148
  try dsimp only
  iapply (seq (part6 m K c v2 v142 0#32)) $$ [HS Hx]
  · isplitr; · iexact HE
    isplitl [HS]; · iexact HS
    iexact Hx
  iintro %r H
  obtain ⟨v168, v181⟩ := r
  icases H with ⟨%hp, HS, Hx⟩
  dsimp only at hp; subst hp
  try dsimp only
  iapply (seq (part7 m K c v2 v168 0#32)) $$ [HS Hx]
  · isplitr; · iexact HE
    isplitl [HS]; · iexact HS
    iexact Hx
  iintro %v194 H
  icases H with ⟨HR, Hx⟩
  try dsimp only
  iapply (seq (part8 m K c v2 v38 X)) $$ [HR Hx Ho HW1]
  · isplitr; · iexact HE
    isplitl [HR]; · iexact HR
    isplitl [Hx]; · iexact Hx
    isplitl [Ho]; · iexact Ho
    iexact HW1
  iintro %v242 H
  icases H with ⟨%hp, Hs0, HR, Hx, Ho⟩
  subst hp
  try dsimp only
  iapply (seq (part9 m K c v64 v90)) $$ [HR Ho]
  · isplitr; · iexact HE
    isplitl [HR]; · iexact HR
    iexact Ho
  iintro %r H
  icases H with ⟨HR, Ho⟩
  try dsimp only
  iapply (seq (part10 m K c v116 v142)) $$ [HR Ho]
  · isplitr; · iexact HE
    isplitl [HR]; · iexact HR
    iexact Ho
  iintro %r H
  icases H with ⟨HR, Ho⟩
  try dsimp only
  iapply (seq (part11 m K c v168)) $$ [HR Ho]
  · isplitr; · iexact HE
    isplitl [HR]; · iexact HR
    iexact Ho
  iintro %v325 H
  icases H with ⟨%hp, HR, Ho⟩
  subst hp
  try dsimp only
  iapply (seq (part12 m K c v2 v194 f g)) $$ [HR Ho Hout Hg]
  · isplitr; · iexact HE
    isplitl [HR]; · iexact HR
    isplitl [Ho]; · iexact Ho
    isplitl [Hout]; · iexact Hout
    iexact Hg
  iintro %r H
  obtain ⟨v352, c8''⟩ := r
  icases H with ⟨HR, Ho, Hout, Hg⟩
  try dsimp only
  unfold Red
  icases HR with ⟨HO, HW1⟩
  ihave HG := (gat_intro m c) $$ [HO HGB Hg Hd]
  · isplitl [HO]; · iexact HO
    isplitl [HGB]; · iexact HGB
    isplitl [Hg] <;> iassumption
  iapply (seq (part13 m K c v2 v352 c8'')) $$ [HG]
  · isplitr; · iexact HE
    iexact HG
  iintro %r H
  obtain ⟨v353, v364, v375⟩ := r
  icases H with HG
  try dsimp only
  iapply (seq (part14 m K c v2 0#32 0#32)) $$ [HG]
  · isplitr; · iexact HE
    iexact HG
  iintro %r H
  obtain ⟨v386, v397, v408⟩ := r
  icases H with HG
  try dsimp only
  iapply (seq (part15 m K c v2 v353)) $$ [HG HW3]
  · isplitr; · iexact HE
    isplitl [HG]; · iexact HG
    iexact HW3
  iintro %r H
  obtain ⟨v419, v440⟩ := r
  icases H with ⟨%hp, Hs2, HF⟩
  dsimp only at hp; subst hp
  try dsimp only
  iapply (seq (part16 m K c v2 v364 v375)) $$ [HF Hout]
  · isplitr; · iexact HE
    isplitl [HF]; · iexact HF
    iexact Hout
  iintro %v469 H
  icases H with ⟨HF, Hout⟩
  try dsimp only
  iapply (seq (part17 m K c v2 v386 v397 v469)) $$ [HF Hout]
  · isplitr; · iexact HE
    isplitl [HF]; · iexact HF
    iexact Hout
  iintro %c1 H
  icases H with ⟨HF, Hout⟩
  try dsimp only
  iapply (seq (part18 m K c v2 v408 v419 c1)) $$ [HF Hout]
  · isplitr; · iexact HE
    isplitl [HF]; · iexact HF
    iexact Hout
  iintro %r H
  icases H with ⟨HF, Hout⟩
  try dsimp only
  ihave HW0 := (sd_wt m c 0 1 (rsS c) (rsD c)) $$ [Hs0 HP0]
  · isplitl [Hs0] <;> iassumption
  ihave HW2 := (sd_wt m c 2 3 (agSrc m c) (agD c)) $$ [Hs2 HP2]
  · isplitl [Hs2] <;> iassumption
  iapply (seq (part19 m K c v2)) $$ [HF Hout HW0 HW2]
  · isplitr; · iexact HE
    isplitl [HF]; · iexact HF
    isplitl [Hout]; · iexact Hout
    isplitl [HW0]; · iexact HW0
    iexact HW2
  iintro %r H
  icases H with ⟨HW3, Hout, HL⟩
  try dsimp only
  iapply (seq (part20 m K c)) $$ [HL]
  · isplitr; · iexact HE
    iexact HL
  iintro %r H
  icases H with HL
  try dsimp only
  iapply (seq (part21 m K c)) $$ [HL]
  · isplitr; · iexact HE
    iexact HL
  iintro %r H
  icases H with HL
  try dsimp only
  simp only [Prog.lift, Prog.bind_op, Prog.bind_ret, Prog.pure_eq_ret]
  iapply (lwait2 c 5 5 6 6 rfl rfl) $$ HE HL; iintro HL
  iapply (lwait0 c 6 6 7 6 rfl rfl) $$ HE HL; iintro HL
  iapply (lwait2 c 6 6 7 7 rfl rfl) $$ HE HL; iintro HL
  unfold WP; rw [wp_ret]; imodintro
  isplitl [Hab]; · iexact Hab
  isplitl [HL]; · iexact HL
  isplitl [HW1]; · iexact HW1
  isplitl [HW3]; · iexact HW3
  isplitl [Hx]; · iexact Hx
  isplitl [H1]; · iexact H1
  isplitl [H2]; · iexact H2
  isplitl [Ho] <;> iassumption

end Cert.KernelIdeal.Mesh

end
-- ==== Proof.IdealBody.lean ====
module

public import proofs.«01_k».proof.Proof.IdealBuffers
public import proofs.«01_k».proof.Proof.IdealRun

/-!
# The eight-device MLP kernel: the body's contract
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and what it leaves -/

/-- The cells' invariants and that each cell has reached its round. -/
def known (K : Dev nD × CI → ℕ) : sProp 𝕄 :=
  iprop((bigSep Finset.univ fun ci : Dev nD × CI => cellInv ER (Rd m) (K ci) (kcell ci))
    ∗ bigSep Finset.univ fun ci : Dev nD × CI => reached ER (kcell ci) 0)
instance known_persistent (K : Dev nD × CI → ℕ) : BI.Persistent (known (F := F) m K) := by unfold known; infer_instance

/-- The tokens of the duties device `c` pays. -/
def payToks (c : Dev nD) : sProp 𝕄 :=
  iprop((bigSep Finset.univ fun k => dutyTok ER (barCell (sh c k)) 0 k.rev)
    ∗ (bigSep Finset.univ fun k => dutyTok ER (dmaCell c 0 k) 0 0) ∗ (bigSep Finset.univ fun k => dutyTok ER (dmaCell (sh c k) 1 k) 0 0)
    ∗ (bigSep Finset.univ fun k => dutyTok ER (dmaCell c 2 k) 0 0) ∗ (bigSep Finset.univ fun k => dutyTok ER (dmaCell (sh c k) 3 k) 0 0))
/-- Device `c`'s positions on its own cells. -/
def poss (c : Dev nD) : sProp 𝕄 := iprop(atPos ER (barCell c) 0 ∅ 0 ∗ Pos c 0 ∗ Pos c 1 ∗ Pos c 2 ∗ Pos c 3)
def ghost (K : Dev nD × CI → ℕ) (c : Dev nD) : sProp 𝕄 := iprop(known m K ∗ poss c ∗ payToks c)
/-- The credit of an array's seven receives. -/
def crd (c : Dev nD) (a : Fin 4) : sProp 𝕄 := bigSep Finset.univ fun k => cred (tallyAt (dmaCell c a k) () N)
/-- What device `c`'s body starts from besides its buffers. -/
def start (c : Dev nD) : sProp 𝕄 :=
  iprop((∃ K, ghost m K c) ∗ cred (tallyAt (barCell c) () 7) ∗ crd c 1 ∗ crd c 3 ∗ levAts L lv)
/-- The five scratch buffers, at any contents. -/
def scr (c : Dev nD) : sProp 𝕄 :=
  iprop(anyP c cc0_scratch0 ∗ anyP c cc0_scratch1 ∗ anyP c cc0_scratch2 ∗ anyP c cc0_scratch3 ∗ anyP c cc0_scratch4)
/-- The seven counters of an array at zero. -/
def zer (c : Dev nD) (a : Fin 4) : sProp 𝕄 := bigSep Finset.univ fun k => semVal (dmaCell c a k) 0

def Φ₀ (c : Dev nD) : sProp 𝕄 := iprop(start m c ∗ scr c)
/-- After the body: the scratch buffers and every counter at zero. -/
def Φ₁ (c : Dev nD) : sProp 𝕄 := iprop(scr c ∗ semVal (barCell c) 0 ∗ zer c 0 ∗ zer c 1 ∗ zer c 2 ∗ zer c 3)

abbrev s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => w1V m c
    | ⟨2, _⟩ => w2V m c
    | ⟨3, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A family over the four windows, written out window by window. -/
theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-! ## The body -/

/-- The send buffer and the tokens of the reduce transfers, put together slot by slot. -/
theorem snd_intro (c : Dev nD) :
    iprop(anyP c cc0_scratch1 ∗ (bigSep Finset.univ fun k => dutyTok ER (dmaCell c 0 k) 0 0) ∗ (bigSep Finset.univ fun k => dutyTok ER (dmaCell (sh c k) 1 k) 0 0))
      ⊢ (SndB (F := F) c : sProp 𝕄) := by
  unfold SndB
  rw [bigSep_sep', bigSep_sep']
  iintro ⟨H, Ht, Hr⟩
  ihave H := (split_rsS c) $$ H
  isplitl [H]; · iexact H
  isplitl [Ht] <;> iassumption

/-- The tokens of the gather transfers, put together step by step. -/
theorem gatB_intro (c : Dev nD) :
    iprop((bigSep Finset.univ fun k => dutyTok ER (dmaCell c 2 k) 0 0) ∗ (bigSep Finset.univ fun k => dutyTok ER (dmaCell (sh c k) 3 k) 0 0))
      ⊢ (GatB (F := F) c : sProp 𝕄) := by
  unfold GatB; rw [bigSep_sep']

/-- What the run of the body asks for, from what the device starts from. -/
theorem body_start (K : Dev nD × CI → ℕ) (c : Dev nD) (X : Vec F S128x1024 .f32) (f : (cc0_stg3_0 : Ref sig .tc).ty.Contents (Elt F)) (g : Vec F S128x1024 .bf16) :
    iprop(env m K ∗ (poss c ∗ payToks c) ∗ (cred (tallyAt (barCell c) () 7) ∗ crd c 1 ∗ crd c 3)
        ∗ (ownP c X ∗ anyP c cc0_scratch1 ∗ anyP c cc0_scratch2 ∗ (((c : Thread nD τ).loc cc0_scratch3) ↦{fullShare} g) ∗ anyP c cc0_scratch4)
        ∗ Ow c (O₀ c) ∗ xP m c ∗ w1P m c ∗ w2P m c ∗ (((c : Thread nD τ).loc cc0_stg3_0) ↦{fullShare} f))
      ⊢ iprop(env m K ∗ Sig c 0 ∗ cred (tallyAt (barCell c) () 7) ∗ atPos ER (barCell c) 0 ∅ 0 ∗ SndB c ∗ GatB c ∗ Pos c 0 ∗ Pos c 2
        ∗ Wt m c 1 0 ∗ Wt m c 3 0 ∗ xP m c ∗ w1P m c ∗ w2P m c ∗ ownP c X
        ∗ (((c : Thread nD τ).loc cc0_stg3_0) ↦{fullShare} f) ∗ (((c : Thread nD τ).loc cc0_scratch3) ↦{fullShare} g)) := by
  unfold poss payToks
  iintro ⟨#HE, ⟨⟨Hab, HP0, HP1, HP2, HP3⟩, HtB, Ht0, Ht1, Ht2, Ht3⟩, ⟨Hcb, Hc1, Hc3⟩, ⟨Ho, Hs1, Hs2, Hg, Hs4⟩, HO, Hx, H1, H2, Hout⟩
  isplitr; · iexact HE
  isplitl [HO HtB Hs2 Hs4]
  · iapply (sig_intro c)
    isplitl [HO]; · iexact HO
    isplitl [HtB]; · iexact HtB
    isplitl [Hs2] <;> iassumption
  isplitl [Hcb]; · iexact Hcb
  isplitl [Hab]; · iexact Hab
  isplitl [Hs1 Ht0 Ht1]
  · iapply (snd_intro c)
    isplitl [Hs1]; · iexact Hs1
    isplitl [Ht0] <;> iassumption
  isplitl [Ht2 Ht3]
  · iapply (gatB_intro c)
    isplitl [Ht2] <;> iassumption
  isplitl [HP0]; · iexact HP0
  isplitl [HP2]; · iexact HP2
  isplitl [HP1 Hc1]
  · iapply (wt_zero m c 1)
    unfold crd
    isplitl [HP1] <;> iassumption
  isplitl [HP3 Hc3]
  · iapply (wt_zero m c 3)
    unfold crd
    isplitl [HP3] <;> iassumption
  isplitl [Hx]; · iexact Hx
  isplitl [H1]; · iexact H1
  isplitl [H2]; · iexact H2
  isplitl [Ho]; · iexact Ho
  isplitl [Hout] <;> iassumption

/-- What the device leaves, from what the run of the body ends in. -/
theorem body_end (K : Dev nD × CI → ℕ) (c : Dev nD) (f1 : Buf (Elt F) ((c : Thread nD τ).loc cc0_scratch1)) (f2 : Buf (Elt F) ((c : Thread nD τ).loc cc0_scratch2))
    (f4 : Buf (Elt F) ((c : Thread nD τ).loc cc0_scratch4)) :
    iprop(env m K ∗ atPos ER (barCell c) 1 ∅ 0 ∗ Lst m c 7 7 ∗ Wt m c 1 7 ∗ Wt m c 3 7 ∗ xP m c ∗ w1P m c ∗ w2P m c
            ∗ ownP c (acc m c 7) ∗ Out (m := m) c 7)
      ⊢ (|={Set.univ}=> iprop(Φ₁ c ∗ Ow c 0 ∗ xP m c ∗ w1P m c ∗ w2P m c ∗ (((c : Thread nD τ).loc cc0_stg3_0) ↦{fullShare} outV m c)) : sProp 𝕄) := by
  unfold Lst
  iintro ⟨#HE, Hab, ⟨HO, HW0, HW2⟩, HW1, HW3, Hx, H1, H2, Ho, Hout⟩
  ihave HW0 := (wt_seven m c 0) $$ HW0
  icases HW0 with ⟨Ha0, Hp0⟩
  ihave HW1 := (wt_seven m c 1) $$ HW1
  icases HW1 with ⟨Ha1, Hp1⟩
  ihave HW2 := (wt_seven m c 2) $$ HW2
  icases HW2 with ⟨Ha2, Hp2⟩
  ihave HW3 := (wt_seven m c 3) $$ HW3
  icases HW3 with ⟨Ha3, Hp3⟩
  imod (close_bar m K c) $$ [Hab] with Hab
  · isplitr; · iexact HE
    iexact Hab
  imod (close_arr m K c 0) $$ [Ha0] with Ha0
  · isplitr; · iexact HE
    iexact Ha0
  imod (close_arr m K c 1) $$ [Ha1] with Ha1
  · isplitr; · iexact HE
    iexact Ha1
  imod (close_arr m K c 2) $$ [Ha2] with Ha2
  · isplitr; · iexact HE
    iexact Ha2
  imod (close_arr m K c 3) $$ [Ha3] with Ha3
  · isplitr; · iexact HE
    iexact Ha3
  ihave Hp0 := (join_rsS m c f1) $$ Hp0
  ihave Hp1 := (join_rsR m c f2) $$ Hp1
  ihave Hp2 := (join_agS m c) $$ Hp2
  ihave Hp3 := (join_agR m c f4) $$ Hp3
  ihave Hout := (out_all m c) $$ Hout
  imodintro
  unfold Φ₁ scr zer
  isplitl [Ho Hp0 Hp1 Hp2 Hp3 Hab Ha0 Ha1 Ha2 Ha3]
  · isplitl [Ho Hp0 Hp1 Hp2 Hp3]
    · isplitl [Ho]; · iexists (acc m c 7); iexact Ho
      isplitl [Hp0]; · iexact Hp0
      isplitl [Hp1]; · iexact Hp1
      isplitl [Hp2] <;> iassumption
    isplitl [Hab]; · iexact Hab
    isplitl [Ha0]; · iexact Ha0
    isplitl [Ha1]; · iexact Ha1
    isplitl [Ha2] <;> iassumption
  isplitl [HO]; · iexact HO
  isplitl [Hx]; · iexact Hx
  isplitl [H1]; · iexact H1
  isplitl [H2] <;> iassumption

/-- A run from facts that may be used again can end in any postcondition that those facts and its own give, updates allowed. -/
theorem run_keep (c : Dev nD) {α : Type} {p : Prog (TpuEff nD τ sig (Elt F) Λ₀ .tc) α} {R P Q' : sProp 𝕄} {Q : α → sProp 𝕄} [BI.Persistent R]
    (h : iprop(R ∗ P) ⊢ WP c p fun _ => Q') (h' : ∀ a, iprop(R ∗ Q') ⊢ (|={Set.univ}=> Q a)) : iprop(R ∗ P) ⊢ WP c p Q := by
  unfold WP at h ⊢
  iintro ⟨#HR, HP⟩
  ihave H := (h.trans (wp_wand _ _ _)) $$ [HP]
  · isplitr; · iexact HR
    iexact HP
  iapply (wp_fupd)
  iapply H
  iintro %a HQ
  iapply (h' a)
  isplitr; · iexact HR
  iexact HQ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- To own a whole buffer at `X` is to hold its points-to at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ
    ∗ stg c cc0_stg0_0 (xV m c) ∗ stg c cc0_stg1_0 (w1V m c) ∗ stg c cc0_stg2_0 (w2V m c) ∗ stg c cc0_stg3_0 (outV m c))

/-- What the run of the body leaves is the postcondition asked of the body. -/
theorem body_post (c : Dev nD) :
    iprop(Φ₁ c ∗ Ow c 0 ∗ xP m c ∗ w1P m c ∗ w2P m c ∗ (((c : Thread nD τ).loc cc0_stg3_0) ↦{fullShare} outV m c)) ⊢ bodyPost m ρ c := by
  unfold bodyPost Ow Dat.owesAt Pipeline.owesWithin
  rw [show (dats m ρ 0 c).owed t0_0.succ = 0 from rfl]
  iintro ⟨HΦ, ⟨%W, HO⟩, Hx, H1, H2, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [H1]
  · iexists _; isplitr; · (ipureintro; rfl)
    iexact H1
  isplitl [H2]
  · iexists _; isplitr; · (ipureintro; rfl)
    iexact H2
  iexists _; isplitr; · (ipureintro; rfl)
  iexact Hout

set_option maxHeartbeats 1000000 in
/-- The body of device `c` between its contract's two ends. -/
theorem sound_body (c : Dev nD) : bodyPre m ρ c ⊢ WP c (cc0_body xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8) (fun _ => bodyPost m ρ c) := by
  unfold bodyPre Φ₀ start ghost scr
  iintro ⟨⟨⟨⟨%K, #HK, Hp, Ht⟩, Hcb, Hc1, Hc3, #Hlev⟩, ⟨%X, Ho⟩, ⟨%f1, Hs1⟩, ⟨%f2, Hs2⟩, ⟨%g, Hg⟩, ⟨%f4, Hs4⟩⟩,
    HO, ⟨%d0, %g0, %hg0, Hx⟩, ⟨%d1, %g1, %hg1, H1⟩, ⟨%d2, %g2, %hg2, H2⟩, ⟨%d3, %f, %hf, Hout⟩⟩
  have h0 : g0 = xV m c := by rw [hg0]; unfold Dat.before; rw [if_pos (fetch0_0 t0_0)]; rfl
  have h1 : g1 = w1V m c := by rw [hg1]; unfold Dat.before; rw [if_pos (fetch0_1 t0_0)]; rfl
  have h2 : g2 = w2V m c := by rw [hg2]; unfold Dat.before; rw [if_pos (fetch0_2 t0_0)]; rfl
  subst g0 g1 g2
  unfold Dat.owesAt Pipeline.owesWithin
  icases HO with ⟨%W, -, HO⟩
  rw [show (dats m ρ 0 c).owed t0_0.castSucc = O₀ c from rfl]
  iapply (run_keep c (R := env m K) (P := iprop(Sig c 0 ∗ cred (tallyAt (barCell c) () 7) ∗ atPos ER (barCell c) 0 ∅ 0 ∗ SndB c ∗ GatB c ∗ Pos c 0 ∗ Pos c 2
        ∗ Wt m c 1 0 ∗ Wt m c 3 0 ∗ xP m c ∗ w1P m c ∗ w2P m c ∗ ownP c X
        ∗ (((c : Thread nD τ).loc cc0_stg3_0) ↦{fullShare} f) ∗ (((c : Thread nD τ).loc cc0_scratch3) ↦{fullShare} g)))
      (run_body m K c X f g) fun _ => (body_end m K c f1 f2 f4).trans (fupd_mono (body_post m ρ c)))
  iapply (body_start m K c X f g)
  isplitr
  · unfold env known
    icases HK with ⟨#HI, #HR⟩
    isplitr; · iexact HI
    isplitr; · iexact HR
    iexact Hlev
  isplitl [Hp Ht]
  · isplitl [Hp] <;> iassumption
  isplitl [Hcb Hc1 Hc3]
  · isplitl [Hcb]; · iexact Hcb
    isplitl [Hc1] <;> iassumption
  isplitl [Ho Hs1 Hs2 Hg Hs4]
  · isplitl [Ho]; · iexact Ho
    isplitl [Hs1]; · iexists f1; iexact Hs1
    isplitl [Hs2]; · iexists f2; iexact Hs2
    isplitl [Hg]; · iexact Hg
    iexists f4; iexact Hs4
  isplitl [HO]
  · unfold Ow; iexists W; iexact HO
  isplitl [Hx]; · iexact Hx
  isplitl [H1]; · iexact H1
  isplitl [H2]; · iexact H2
  iexact Hout

set_option maxRecDepth 65536 in
/-- The contract of the body on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (cc0_body xM (Memref.isWhole_whole _) w1M (Memref.isWhole_whole _) w2M (Memref.isWhole_whole _) oM (Memref.isWhole_whole _) ownM (Memref.isWhole_whole _) rsSM (Memref.isWhole_whole _) rsRM (Memref.isWhole_whole _) agSM (Memref.isWhole_whole _) agRM (Memref.isWhole_whole _) cc0_scratch5 cc0_scratch6 cc0_scratch7 cc0_scratch8) (fun _ => bodyPost m ρ c)
  exact sound_body m ρ c

end Cert.KernelIdeal.Mesh

end
-- ==== Proof.IdealLaunch.lean ====
module

public import proofs.«01_k».proof.Proof.IdealBody
public import Idealize.ShloMosaic.Lib.Pipeline.CollectiveSegs

/-!
# The eight-device MLP kernel: the launch and the run of all devices
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands out -/

/-- The transfer semaphores are the kernel's own and distinct. -/
theorem ownSemFacts : Pipeline.OwnSemFacts cfg0.spec osem := by decide +kernel

/-- Every window is held in full. -/
theorem share_eq (c : Dev nD) (w : Fin cfg0.W) : (dats m ρ 0 c).share w = fullShare := by unfold Dat.share; split <;> rfl

def meshCells : Finset (GSem nD τ sig) := Finset.univ.map ⟨kcell, kcell_injective⟩

/-- The duty tokens of a device's own cells: seven at the barrier, one at each transfer cell. -/
abbrev TI : Type := Fin 7 ⊕ (Fin 4 × Fin 7)
abbrev tokCell : TI → CI := Sum.elim (fun _ => none) some
abbrev tokDuty : TI → Fin 7 := Sum.elim id fun _ => 0
abbrev tokOf (ct : Dev nD × TI) : GSem nD τ sig × ℕ × Fin 7 := (kcell (ct.1, tokCell ct.2), 0, tokDuty ct.2)
/-- Different duties have different tokens. -/
theorem tokOf_injective : Function.Injective tokOf := by
  rintro ⟨c, t⟩ ⟨c', t'⟩ h
  have h1 := kcell_injective (congrArg (fun x => x.1) h)
  have h2 : tokDuty t = tokDuty t' := congrArg (fun x => x.2.2) h
  have h3 : c = c' := congrArg Prod.fst h1
  have h4 : tokCell t = tokCell t' := congrArg Prod.snd h1
  subst h3
  rcases t with k | i <;> rcases t' with k' | i'
  · have : k = k' := h2
    rw [this]
  · cases h4
  · cases h4
  · have : i = i' := Option.some.inj h4
    rw [this]
def meshToks : Finset (GSem nD τ sig × ℕ × Fin 7) := Finset.univ.map ⟨tokOf, tokOf_injective⟩

def u₀ : UU :=
  (initOf (Pipeline.cells cfgs cellOf_inj) (Pipeline.launchToks cfgs cellOf_inj), initOf meshCells meshToks)

/-- The duty tokens of device `c`'s own cells. -/
def toks (c : Dev nD) : sProp 𝕄 := bigSep Finset.univ fun t : TI => dutyTok ER (kcell (c, tokCell t)) 0 (tokDuty t)

def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)
def G' (c : Dev nD) : sProp 𝕄 := iprop(∃ K, ghost m K c)

omit [FloatOps F] in
/-- A family over an optional index: the member at none, and the others. -/
theorem sep_option {I : Type} [Fintype I] [DecidableEq I] (Φ : Option I → sProp 𝕄) :
    bigSep Finset.univ Φ = iprop(Φ none ∗ bigSep Finset.univ fun i => Φ (some i)) := by
  rw [bigSep_univ_equiv (Equiv.optionEquivSumPUnit.{0} I).symm Φ, bigSep_univ_sum,
    show bigSep Finset.univ (fun b : PUnit => Φ ((Equiv.optionEquivSumPUnit.{0} I).symm (.inr b))) = Φ none from bigSep_singleton]
  exact BI.Entails.antisymm BI.sep_comm BI.sep_comm
omit [FloatOps F] in
/-- A family over four indices, written out. -/
theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- A family over the cells of a device: the barrier's, and array by array. -/
theorem sep_cells (Φ : CI → sProp 𝕄) : bigSep Finset.univ Φ = iprop(Φ none
    ∗ (bigSep Finset.univ fun k => Φ (some (0, k))) ∗ (bigSep Finset.univ fun k => Φ (some (1, k)))
    ∗ (bigSep Finset.univ fun k => Φ (some (2, k))) ∗ (bigSep Finset.univ fun k => Φ (some (3, k)))) := by
  rw [sep_option, bigSep_univ_prod, sep_four]

/-- The initial ghost state gives every device the rounds' states, positions and tokens of its own cells. -/
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun i : CI => Φ (kcell (c, i)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks toks; rw [bigSep_map, bigSep_univ_prod]; rfl
  iintro HX
  imod (Rounds.fund ER (Rd m) meshCells meshToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The kernel's own counters of a device are its transfer cells, at zero. -/
theorem ownSems0_eq (c : Dev nD) : (Pipeline.ownSems0 (Ix := Unit) (Name := ℕ) (U := UU) (Lvl := ℕ) (Val := Elt F) (τ := τ) osem c : sProp 𝕄)
    = bigSep Finset.univ fun i => semVal (kcell (c, some i)) 0 := rfl
omit [FloatOps F] in
/-- The one other counter of a device is its barrier's, at zero. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- All counters of a device are its cells, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, sep_option]
  iintro ⟨H, HB⟩
  isplitl [HB]; · iexact HB
  iexact H

/-- From its counters and its share of the ghost state a device sets up the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat] <;> iassumption

omit [FloatOps F] in
/-- A device's own tokens, cell by cell. -/
theorem toks_eq (c : Dev nD) : (toks c : sProp 𝕄) = iprop((bigSep Finset.univ fun k => dutyTok ER (barCell c) 0 k)
    ∗ (bigSep Finset.univ fun k => dutyTok ER (dmaCell c 0 k) 0 0) ∗ (bigSep Finset.univ fun k => dutyTok ER (dmaCell c 1 k) 0 0)
    ∗ (bigSep Finset.univ fun k => dutyTok ER (dmaCell c 2 k) 0 0) ∗ (bigSep Finset.univ fun k => dutyTok ER (dmaCell c 3 k) 0 0)) := by
  unfold toks
  rw [bigSep_univ_sum, bigSep_univ_prod, sep_four]; rfl

omit [FloatOps F] in
/-- A family over devices and steps, dealt to the devices that step to them. -/
theorem deal (Φ : Dev nD → Fin 7 → sProp 𝕄) :
    (bigSep Finset.univ fun c : Dev nD => bigSep Finset.univ fun k => Φ c k) = bigSep Finset.univ fun c : Dev nD => bigSep Finset.univ fun k => Φ (sh c k) k := by
  rw [Pipeline.bigSep_univ_comm Φ, Pipeline.bigSep_univ_comm fun c k => Φ (sh c k) k]
  exact bigSep_congr fun k _ => bigSep_univ_equiv (shE k) fun c => Φ c k

/-- The tokens of all cells, dealt to the devices that pay them. -/
theorem toks_around : (bigSep Finset.univ fun c : Dev nD => (toks c : sProp 𝕄)) ⊢ bigSep Finset.univ fun c : Dev nD => payToks (F := F) c := by
  unfold payToks
  simp only [toks_eq, bigSep_sep']
  rw [bigSep_congr (s := Finset.univ) (fun (c : Dev nD) _ => slots_rev fun k => (dutyTok ER (barCell c) 0 k : sProp 𝕄)),
    deal fun c k => (dutyTok ER (barCell c) 0 k.rev : sProp 𝕄), deal fun c k => (dutyTok ER (dmaCell c 1 k) 0 0 : sProp 𝕄),
    deal fun c k => (dutyTok ER (dmaCell c 3 k) 0 0 : sProp 𝕄)]

/-- What all devices know, with one device's positions and the tokens it pays, is what that device starts from. -/
theorem ghost_intro (K : Dev nD × CI → ℕ) (c : Dev nD) :
    iprop(known m K ∗ (bigSep Finset.univ fun i : CI => atPos ER (kcell (c, i)) 0 ∅ 0) ∗ payToks c) ⊢ G' m c := by
  unfold G' ghost poss Pos
  rw [sep_cells]
  iintro ⟨HK, Hp, Ht⟩
  iexists K
  isplitl [HK]; · iexact HK
  isplitl [Hp]; · iexact Hp
  iexact Ht

/-- The invariants of all devices become known to each of them, and the tokens go to those that pay. -/
theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd m) κ (kcell ci) : sProp 𝕄))) $$ HI
  icases HK with ⟨%K, #HI⟩
  ihave Htk := (toks_around (F := F)) $$ Htok
  iapply (each (R := known m K) fun c _ => ghost_intro m K c)
  isplitr
  · unfold known; isplitl; · iexact HI
    iexact HR
  · rw [bigSep_sep']
    isplitl [Hat] <;> iassumption

/-- From all counters and all ghost state, every device gets what it starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What all devices together owe one cell, of the units step `k` owes at the cell `ι k` of the device it addresses. -/
theorem owed_sum (ι : Fin 7 → CI) (n : ℕ) (c : Dev nD) (i : CI) :
    ∑ d : Dev nD, (∑ k ∈ from7 0, (tallyAt (kcell (sh d k, ι k)) () n : CellTallies nD τ sig Unit)) (kcell (c, i)) () = ∑ k : Fin 7, if i = ι k then n else 0 := by
  rw [from7_zero]
  simp only [Finset.sum_apply, Finsupp.finset_sum_apply]
  rw [Finset.sum_comm]
  refine Finset.sum_congr rfl fun k _ => ?_
  have e (d : Dev nD) : (tallyAt (kcell (sh d k, ι k)) () n : CellTallies nD τ sig Unit) (kcell (c, i)) () = if d = bk c k then (if i = ι k then n else 0) else 0 := by
    rw [tallyAt_apply]
    by_cases h : d = bk c k
    · subst h
      rw [sh_bk, if_pos rfl]
      by_cases hi : i = ι k
      · rw [if_pos ⟨by rw [hi], rfl⟩, if_pos hi]
      · rw [if_neg fun h => hi (congrArg Prod.snd (kcell_injective h.1)), if_neg hi]
    · rw [if_neg h, if_neg]
      rintro ⟨h', -⟩
      have := congrArg Prod.fst (kcell_injective h')
      exact h (by rw [show c = sh d k from this, bk_sh])
  rw [Finset.sum_congr rfl fun d _ => e d, Finset.sum_ite_eq' Finset.univ (bk c k), if_pos (Finset.mem_univ _)]

/-- What all devices together owe a cell at launch, kind by kind. -/
theorem owed_all (c : Dev nD) (i : CI) : ∑ d : Dev nD, O₀ d (kcell (c, i)) ()
    = (∑ k : Fin 7, if i = some (3, k) then N else 0) + (∑ k : Fin 7, if i = some (1, k) then N else 0) + ∑ k : Fin 7, if i = none then 1 else 0 := by
  rw [← owed_sum (fun k => some (3, k)) N c i, ← owed_sum (fun k => some (1, k)) N c i, ← owed_sum (fun _ => none) 1 c i, ← Finset.sum_add_distrib, ← Finset.sum_add_distrib]
  rfl

/-- A barrier is owed seven units. -/
theorem owed_bar (c : Dev nD) : ∑ d : Dev nD, O₀ d (kcell (c, none)) () = 7 := by rw [owed_all]; simp
/-- A reduce receive is owed one transfer's units. -/
theorem owed_one (c : Dev nD) (k : Fin 7) : ∑ d : Dev nD, O₀ d (kcell (c, some (1, k))) () = N := by rw [owed_all]; simp
/-- A gather receive is owed one transfer's units. -/
theorem owed_three (c : Dev nD) (k : Fin 7) : ∑ d : Dev nD, O₀ d (kcell (c, some (3, k))) () = N := by rw [owed_all]; simp

/-- The credit handed out at launch for a cell is what all devices owe it. -/
theorem launch_at (c : Dev nD) (i : CI) (n : ℕ) (h : ∑ d : Dev nD, O₀ d (kcell (c, i)) () = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same, h]

/-- The credit a device gets at launch covers its barrier wait and its reduce and gather receives. -/
theorem creds (c : Dev nD) :
    (Pipeline.launchCred O₀ c : sProp 𝕄) ⊢ iprop(cred (tallyAt (barCell c) () 7) ∗ crd (F := F) c 1 ∗ crd (F := F) c 3) := by
  have h1 : (Pipeline.launchCred O₀ c : sProp 𝕄)
      ⊢ bigSep Finset.univ fun i : CI => cred (tallyOn (kcell (c, i)) (launchCredit (Pipeline.owing O₀) 0 (kcell (c, i)))) := by
    unfold Pipeline.launchCred
    refine Entails.trans (BI.bigSep_subset (Finset.subset_univ (Finset.univ.map ⟨csem, csem_injective⟩))) (Entails.of_eq ?_)
    rw [bigSep_map]; rfl
  refine h1.trans ?_
  rw [sep_cells, launch_at c none 7 (owed_bar c), bigSep_congr fun k _ => congrArg cred (launch_at c (some (1, k)) N (owed_one c k)),
    bigSep_congr (Φ := fun k => cred (tallyOn (kcell (c, some (3, k))) (launchCredit (Pipeline.owing O₀) 0 (kcell (c, some (3, k))))))
      fun k _ => congrArg cred (launch_at c (some (3, k)) N (owed_three c k))]
  iintro ⟨H, -, H1, -, H3⟩
  unfold crd
  isplitl [H]; · iexact H
  isplitl [H1]; · iexact H1
  iexact H3

/-! ## The run -/

/-- What the launch hands a device gives what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    icases HN with ⟨H2, H3⟩
    isplitl [H2]; · iexact H2
    isplitl [H3] <;> iassumption
  · iempintro

/-- What the run starts from, with the scratch buffers, is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

/-- The state after the body gives back the counters, all at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_univ_prod, sep_four]
  unfold Φ₁ scr zer
  iintro ⟨Hr, HB, HZ⟩
  isplitl [HB]; · iexact HB
  isplitl [HZ]; · iexact HZ
  iexact Hr

/-- No semaphore of the windows' staging is a cell of the protocol. -/
theorem stage_sem (w : Fin cfg0.W) (s) : ∀ i, csem i ≠ .dma ((cfg0.win w).sem s) := by
  revert w s; decide +kernel

/-- The waits on staging copies are allowed before and after the body. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair run of the eight devices from zero counters ends, with each array of each device at its computed
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began. -/
theorem finalA_0 (c : Dev nD) : finalA m ρ c (0 : Fin 4) = m ((c : Thread nD τ).loc main_arg0) := (dats (F := F) m ρ 0 c).arrAt_in (0 : Fin 4) rfl _
/-- The first weights end as they began. -/
theorem finalA_1 (c : Dev nD) : finalA m ρ c (1 : Fin 4) = m ((c : Thread nD τ).loc main_arg1) := (dats (F := F) m ρ 0 c).arrAt_in (1 : Fin 4) rfl _
/-- The second weights end as they began. -/
theorem finalA_2 (c : Dev nD) : finalA m ρ c (2 : Fin 4) = m ((c : Thread nD τ).loc main_arg2) := (dats (F := F) m ρ 0 c).arrAt_in (2 : Fin 4) rfl _

end Cert.KernelIdeal.Mesh

end
-- ==== Proof.IdealValue.lean ====
module

public import proofs.«01_k».proof.Proof.IdealLaunch
public import Idealize.ShloMosaic.Lib.MatmulPlain
public import Idealize.ShloMosaic.Lib.Pipeline.Value
public import Idealize.ShloMosaic.Lib.Pipeline.ValueKit.Geometry

/-!
# The eight-device MLP kernel: what it computes over the extended reals
-/

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- One device and the seven others, from any device on. -/
theorem sum_around (c : Dev nD) (f : Dev nD → EReal) : ∑ e, f e = f c + ∑ k : Fin 7, f (bk c k) := by
  have h : (Finset.univ : Finset (Dev nD)).erase c = Finset.univ.image (bk c) := by revert c; decide
  rw [← Finset.add_sum_erase Finset.univ f (Finset.mem_univ c), h, Finset.sum_image fun k _ k' _ e => bk_inj c k k' e]

/-! ## The payloads over the extended reals, at an index -/

/-- The two products of a chunk with the ReLU between them. -/
theorem pay12_apply (W1 : FVec Ideal S1024x2048 .bf16) (W2 : FVec Ideal S2048x1024 .bf16) (x : FVec Ideal S128x1024 .bf16) (r : Fin 128) (j : Fin 1024) :
    k0_pay12 W1 W2 x (ix2 r j)
      = ∑ l : Fin 2048, max (∑ k : Fin 1024, x (ix2 r k) * W1 (ix2 k l)) 0 * W2 (ix2 l j) := by
  unfold k0_pay12
  rw [shapeCast_self, shapeCast_self]
  refine (Ideal.matmul_plain_apply (M := 128) (K := 2048) (N := 1024) none _ _ _ r j).trans ?_
  refine (congrArg₂ (· + ·) Ideal.ofBits_zero_f32 (Finset.sum_congr rfl fun l _ => congrArg (· * W2 (ix2 l j)) ?_)).trans (zero_add _)
  refine congrArg₂ max ((Ideal.matmul_plain_apply (M := 128) (K := 1024) (N := 2048) none _ _ _ r l).trans ?_) Ideal.ofBits_zero_f32
  exact (congrArg (· + _) Ideal.ofBits_zero_f32).trans (zero_add _)

variable (m : (ℓ : Loc nD τ sig) → Buf (Elt Ideal) ℓ)

/-- What a device sends of a chunk is its product of it. -/
theorem part_eq (c d : Dev nD) (j : S128x1024.Idx) : part m c d j = k0_pay12 (w1V m c) (w2V m c) (xch m c d) j := by
  unfold part k0_pay3 k0_pay12 sqz k0_pay1 k0_pay2
  dsimp only
  simp only [shapeCast_self]
  unfold shapeCast
  rw [Shape.reshapeEquiv_reshapeEquiv, Shape.reshapeEquiv_self]
  rfl

/-- Adding a received piece. -/
theorem pay15_apply (o : FVec Ideal S128x1024 .f32) (v : FVec Ideal S128x1024 .bf16) (j : S128x1024.Idx) :
    k0_pay15 o (unsq (F := Ideal) v) j = o j + v j := by
  unfold k0_pay15 unsq
  rw [shapeCast_self]
  unfold shapeCast
  refine congrArg (o j + ·) ?_
  show v (Shape.reshapeEquiv _ (Shape.reshapeEquiv _ j)) = v j
  rw [Shape.reshapeEquiv_reshapeEquiv, Shape.reshapeEquiv_self]

/-- The running total after `n` pieces is the sum of the device's own piece and of those `n`. -/
theorem acc_eq (c : Dev nD) (j : S128x1024.Idx) : ∀ n, n ≤ 7 → acc m c n j = part m c c j + ∑ k ∈ upto7 n, part m (bk c k) c j
  | 0, _ => by
    rw [upto7_zero, Finset.sum_empty, add_zero, part_eq]
    unfold acc k0_pay1 k0_pay2
    dsimp only
    rw [shapeCast_self, shapeCast_self]
  | n + 1, h => by
    have hn : n < 7 := h
    have e := upto7_grow ⟨n, hn⟩
    have ne := upto7_not_mem ⟨n, hn⟩
    rw [show acc m c (n + 1) = k0_pay15 (acc m c n) (unsq (part m (bk c ⟨n, hn⟩) c)) from dif_pos hn, pay15_apply, acc_eq c j n (Nat.le_of_succ_le h)]
    rw [show upto7 (n + 1) = insert (⟨n, hn⟩ : Fin 7) (upto7 n) from e, Finset.sum_insert ne, add_assoc]
    refine congrArg _ (add_comm _ _)

/-- A chunk's total is the sum of all devices' pieces of it. -/
theorem tot_eq (c : Dev nD) (j : S128x1024.Idx) : tot m c j = ∑ e, part m e c j := by
  rw [sum_around c fun e => part m e c j, ← upto7_seven]; exact acc_eq m c j 7 le_rfl

/-- Every device ends with the same rows. -/
theorem outRow_eq (c d : Dev nD) (j : S128x1024.Idx) : outRow m c d j = tot m d j := by
  unfold outRow
  split
  · rename_i h; rw [h]
  · unfold k0_pay23 unsq agv k0_pay21
    rw [shapeCast_self]
    unfold shapeCast
    show tot m d (Shape.reshapeEquiv _ (Shape.reshapeEquiv _ j)) = _
    rw [Shape.reshapeEquiv_reshapeEquiv, Shape.reshapeEquiv_self]

/-! ## The staged operands -/

/-- The staged `x` is the array of `x`. -/
theorem xV_eq (c : Dev nD) : xV m c = m ((c : Thread nD τ).loc main_arg0) := by
  unfold xV; funext i
  refine congrArg (m ((c : Thread nD τ).loc main_arg0)) (funext fun a => Fin.ext ?_)
  fin_cases a
  · exact (Nat.zero_add _).trans (Nat.one_mul _)
  · exact (Nat.zero_add _).trans (Nat.one_mul _)
/-- The staged first weights are their array. -/
theorem w1V_eq (c : Dev nD) : w1V m c = m ((c : Thread nD τ).loc main_arg1) := by
  unfold w1V; funext i
  refine congrArg (m ((c : Thread nD τ).loc main_arg1)) (funext fun a => Fin.ext ?_)
  fin_cases a
  · exact (Nat.zero_add _).trans (Nat.one_mul _)
  · exact (Nat.zero_add _).trans (Nat.one_mul _)
/-- The staged second weights are their array. -/
theorem w2V_eq (c : Dev nD) : w2V m c = m ((c : Thread nD τ).loc main_arg2) := by
  unfold w2V; funext i
  refine congrArg (m ((c : Thread nD τ).loc main_arg2)) (funext fun a => Fin.ext ?_)
  fin_cases a
  · exact (Nat.zero_add _).trans (Nat.one_mul _)
  · exact (Nat.zero_add _).trans (Nat.one_mul _)

/-- A chunk of `x` at an index is `x` at that row of the whole. -/
theorem xch_apply (c d : Dev nD) (j : S128x1024.Idx) : xch m c d j = m ((c : Thread nD τ).loc main_arg0) ((rowR d).emb j) := by
  unfold xch; rw [xV_eq]; rfl

/-- The row of the whole array at which a row of chunk `devOfRow i` lies. -/
theorem emb_ix2 (i : S1024x1024.Idx) (k : Fin 1024) : (rowR (devOfRow i)).emb (ix2 (n0 := 128) (inRow i 0) k) = ix2 (n0 := 1024) (i 0) k := by
  funext a
  fin_cases a
  · apply Fin.ext
    refine (rowR_emb_val _ _).trans ?_
    show 128 * ((i 0).val / 128) + (i 0).val % 128 = (i 0).val
    omega
  · apply Fin.ext; exact rowR_emb_val1 _ _

/-- One device's share of the result: its product of the whole `x`, the ReLU, and its second product. -/
def share (X : S1024x1024.Idx → EReal) (W1 : S1024x2048.Idx → EReal) (W2 : S2048x1024.Idx → EReal) (i : S1024x1024.Idx) : EReal :=
  ∑ l : Fin 2048, max (∑ k : Fin 1024, X (ix2 (n0 := 1024) (i 0) k) * W1 (ix2 k l)) 0 * W2 (ix2 (n1 := 1024) l (i 1))

/-- **The result**: at each index, the sum over the devices of their shares. -/
theorem outV_apply (c : Dev nD) (i : S1024x1024.Idx) :
    outV m c i = ∑ e : Dev nD, share (m ((e : Thread nD τ).loc main_arg0)) (m ((e : Thread nD τ).loc main_arg1)) (m ((e : Thread nD τ).loc main_arg2)) i := by
  show outRow m c (devOfRow i) (inRow i) = _
  rw [outRow_eq, tot_eq]
  refine Finset.sum_congr rfl fun e _ => ?_
  rw [part_eq, w1V_eq, w2V_eq, show inRow i = ix2 (n0 := 128) (n1 := 1024) (inRow i 0) (i 1) from eq_ix2 (n0 := 128) (n1 := 1024) (inRow i)]
  refine (pay12_apply _ _ _ (inRow i 0) (i 1)).trans ?_
  unfold share
  refine Finset.sum_congr rfl fun l _ => congrArg (fun t : EReal => max t 0 * _) (Finset.sum_congr rfl fun k _ => ?_)
  exact congrArg (fun t : EReal => t * _) ((xch_apply m e _ _).trans (congrArg _ (emb_ix2 i k)))

/-! ## The result's array after the run -/

variable (ρ : Dev nD → PrngReg)

/-- The result's array ends at `outV`. -/
theorem finalA_3 (c : Dev nD) : finalA m ρ c (3 : Fin 4) = outV m c :=
  (dats (F := Ideal) m ρ 0 c).arrAt_eq_of_after_last (3 : Fin 4) t0_0 (by decide +kernel) _ (fun _ => rfl)

end Cert.KernelIdeal.Mesh

end
-- ==== Proof.Whole.lean ====
module

public import proofs.«01_k».proof.Proof.IdealValue
public import proofs.«01_k».proof.Proof.Gen.ReferenceIdeal.Run
public import Idealize.ShloMosaic.Lib.StackMember
public import Idealize.ShloMosaic.Lib.Layout

/-!
# The reference over the extended reals, and the kernel's sum over devices as it

The reference contracts all 16384 hidden columns at once; the kernel sums, over the eight devices, the contraction of
the 2048 columns each holds.
-/

@[expose] public section

noncomputable section

namespace Cert.ReferenceIdeal.Whole

open Cert.ReferenceIdeal Cert.ReferenceIdeal.Gen
open Idealize.ShloMosaic Idealize.ShloMosaic.TcCoe Idealize.ShloMosaic.ValueIdx
open Idealize.ShloMosaic.StackMember (dotGeneral_plain_apply)
open Cert.KernelIdeal.Mesh (share)
open scoped BigOperators

/-- The reference's operations composed. -/
def refOut (X : FVec Ideal S1024x1024 .bf16) (W1 : FVec Ideal S1024x16384 .bf16) (W2 : FVec Ideal S16384x1024 .bf16) : FVec Ideal S1024x1024 .f32 :=
  extf .f32 (truncf .bf16 (Host.dotGeneral dot_S1024x16384_S16384x1024_S1024x1024_1_0_0_1_n_n none
    (maximumf (truncf .bf16 (Host.dotGeneral dot_S1024x1024_S1024x16384_S1024x16384_1_0_0_1_n_n none X W1) bitsLt_bf16_f32)
      (broadcastInDim S1024x16384 ![] bcast_S_S1024x16384 (constant S_ .bf16 0x0000#16))) W2) bitsLt_bf16_f32) bitsLt_bf16_f32

/-- The zero bits are the number zero. -/
theorem ofBits_zero_bf16 : Ideal.ofBits .bf16 0x0000#16 = 0 := by simp [Ideal.ofBits, Ideal.ieee]

/-- The reference at an index: two sums with the ReLU between them. -/
theorem refOut_apply (X : FVec Ideal S1024x1024 .bf16) (W1 : FVec Ideal S1024x16384 .bf16) (W2 : FVec Ideal S16384x1024 .bf16) (r j : Fin 1024) :
    refOut X W1 W2 (ix2 r j) = ∑ l : Fin 16384, max (∑ k : Fin 1024, X (ix2 r k) * W1 (ix2 k l)) 0 * W2 (ix2 l j) := by
  unfold refOut
  have cast (v : FVec Ideal S1024x1024 .f32) : extf .f32 (truncf .bf16 v bitsLt_bf16_f32) bitsLt_bf16_f32 = v := rfl
  rw [cast, show dot_S1024x16384_S16384x1024_S1024x1024_1_0_0_1_n_n = DotDims.plain 1024 16384 1024 from rfl,
    show dot_S1024x1024_S1024x16384_S1024x16384_1_0_0_1_n_n = DotDims.plain 1024 1024 16384 from rfl]
  refine (dotGeneral_plain_apply none _ W2 r j).trans (Finset.sum_congr rfl fun l _ => congrArg (fun t : EReal => t * W2 (ix2 l j)) ?_)
  show max (Host.dotGeneral (DotDims.plain 1024 1024 16384) none X W1 (ix2 r l) : EReal) (Ideal.ofBits .bf16 0x0000#16) = _
  rw [ofBits_zero_bf16]
  exact congrArg (fun t : EReal => max t 0) (dotGeneral_plain_apply none X W1 r l)

/-- A sum over the 16384 hidden columns, device by device. -/
theorem sum_columns (f : Fin 16384 → EReal) :
    ∑ l, f l = ∑ e : Fin 8, ∑ l : Fin 2048, f ⟨e.val * 2048 + l.val, by omega⟩ := by
  rw [← Fintype.sum_prod_type' fun (e : Fin 8) (l : Fin 2048) => f ⟨e.val * 2048 + l.val, by omega⟩]
  refine (Fintype.sum_equiv (finProdFinEquiv (m := 8) (n := 2048)) _ f fun p => congrArg f (Fin.ext ?_)).symm
  show p.1.val * 2048 + p.2.val = p.2.val + 2048 * p.1.val
  omega

/-- **The shares of the eight devices, each of its columns of `W1` and rows of `W2`, add up to the reference.** -/
theorem shares_eq (X : FVec Ideal S1024x1024 .bf16) (W1 : FVec Ideal S1024x16384 .bf16) (W2 : FVec Ideal S16384x1024 .bf16) (i : S1024x1024.Idx) :
    ∑ e : Fin 8, share X (Layout.block ⟨2, ![1024, 2048]⟩ ⟨2, ![1024, 16384]⟩ 1 8 e W1) (Layout.block ⟨2, ![2048, 1024]⟩ ⟨2, ![16384, 1024]⟩ 0 8 e W2) i
      = refOut X W1 W2 i := by
  rw [show i = ix2 (n0 := 1024) (n1 := 1024) (i 0) (i 1) from eq_ix2 (n0 := 1024) (n1 := 1024) i]
  refine Eq.trans ?_ (refOut_apply X W1 W2 (i 0) (i 1)).symm
  rw [sum_columns]
  refine Finset.sum_congr rfl fun e _ => Finset.sum_congr rfl fun l _ => ?_
  refine congrArg₂ (fun s t : EReal => max s 0 * t) (Finset.sum_congr rfl fun k _ => congrArg (fun t : EReal => _ * t) (congrArg W1 ?_)) (congrArg W2 ?_)
  · funext a; match a with | ⟨0, _⟩ => rfl | ⟨1, _⟩ => rfl
  · funext a; match a with | ⟨0, _⟩ => rfl | ⟨1, _⟩ => rfl

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PlainLaunch
public import proofs.«01_k».proof.Proof.IdealValue
public import proofs.«01_k».proof.Proof.Whole
public import Idealize.ShloMosaic.Adequacy
public import Idealize.ShloMosaic.Init

@[expose] public section

noncomputable section

namespace Cert.Proof

open Idealize.ShloMosaic Idealize.ShloMosaic.TcCoe Idealize.SL.Sem

/-- The kernel runs on the eight devices, leaves its operands and ends with every counter at zero. -/
theorem frame_p : Cert.quiescent_Kernel := fun m ρ _ =>
  (θ_run Cert.Kernel.defs _ _).mono
    (fun _ h => ⟨fun c => ⟨(h.1 c (0 : Fin 4)).trans (Cert.Kernel.Mesh.finalA_0 m ρ c), (h.1 c (1 : Fin 4)).trans (Cert.Kernel.Mesh.finalA_1 m ρ c),
      (h.1 c (2 : Fin 4)).trans (Cert.Kernel.Mesh.finalA_2 m ρ c)⟩, h.2⟩)
    (Cert.Kernel.Mesh.run_main (F := Bits) m ρ)

/-- The same of the kernel read over the extended reals. -/
theorem frame_pi : Cert.quiescent_KernelIdeal := fun m ρ _ =>
  (θ_run Cert.KernelIdeal.defs _ _).mono
    (fun _ h => ⟨fun c => ⟨(h.1 c (0 : Fin 4)).trans (Cert.KernelIdeal.Mesh.finalA_0 m ρ c), (h.1 c (1 : Fin 4)).trans (Cert.KernelIdeal.Mesh.finalA_1 m ρ c),
      (h.1 c (2 : Fin 4)).trans (Cert.KernelIdeal.Mesh.finalA_2 m ρ c)⟩, h.2⟩)
    (Cert.KernelIdeal.Mesh.run_main (F := Ideal) m ρ)

/-- The reference runs, leaves its operands and has no counter. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device ends with the reference's result, both over the extended reals. -/
theorem algebraic : Cert.algebraic_KernelIdeal_ReferenceIdeal := by
  intro m ρ m' ρ' _ hagree
  refine ⟨Cert.ReferenceIdeal.Whole.refOut (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2)), ?_, ?_⟩
  · refine (θ_run Cert.KernelIdeal.defs _ _).mono (fun r h c => ⟨?_, (h.1 c (0 : Fin 4)).trans (Cert.KernelIdeal.Mesh.finalA_0 m ρ c),
      (h.1 c (1 : Fin 4)).trans (Cert.KernelIdeal.Mesh.finalA_1 m ρ c), (h.1 c (2 : Fin 4)).trans (Cert.KernelIdeal.Mesh.finalA_2 m ρ c)⟩)
      (Cert.KernelIdeal.Mesh.run_main (F := Ideal) m ρ)
    refine (h.1 c (3 : Fin 4)).trans ((Cert.KernelIdeal.Mesh.finalA_3 m ρ c).trans (funext fun i => ?_))
    refine (Cert.KernelIdeal.Mesh.outV_apply m c i).trans (Eq.trans (α := EReal) (Finset.sum_congr rfl fun e _ => ?_) (Cert.ReferenceIdeal.Whole.shares_eq _ _ _ i))
    obtain ⟨h0, h1, h2⟩ := hagree e
    rw [h0, h1, h2]
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, trivial, algebraic⟩

end Cert.Proof

end
